-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_on_grid_KernelIdeal [hPre_on_grid_KernelIdeal : Cert.Pre_on_grid_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_on_grid_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_grid_ReferenceIdeal [hPre_on_grid_ReferenceIdeal : Cert.Pre_on_grid_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_grid_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_on_grid_KernelIdeal [hKernelIdeal : Cert.KernelIdeal.Facts] [hPre_on_grid_KernelIdeal : Cert.Pre_on_grid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_grid_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_on_grid_ReferenceIdeal [hReferenceIdeal : Cert.ReferenceIdeal.Facts] [hPre_on_grid_ReferenceIdeal : Cert.Pre_on_grid_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_grid_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_on_grid_KernelIdeal [hKernelIdeal : Cert.KernelIdeal.Facts] [hReferenceIdeal : Cert.ReferenceIdeal.Facts] [hPre_on_grid_KernelIdeal : Cert.Pre_on_grid_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_grid_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_on_grid_KernelIdeal : Cert.Pre_on_grid_KernelIdeal.Facts) (hPre_on_grid_ReferenceIdeal : Cert.Pre_on_grid_ReferenceIdeal.Facts),
    quiescent_Kernel (hKernel := hKernel)
    ∧ quiescent_KernelIdeal (hKernelIdeal := hKernelIdeal)
    ∧ quiescent_KernelIdeal_pre_on_grid_KernelIdeal (hKernelIdeal := hKernelIdeal) (hPre_on_grid_KernelIdeal := hPre_on_grid_KernelIdeal)
    ∧ quiescent_ReferenceIdeal (hReferenceIdeal := hReferenceIdeal)
    ∧ quiescent_ReferenceIdeal_pre_on_grid_ReferenceIdeal (hReferenceIdeal := hReferenceIdeal) (hPre_on_grid_ReferenceIdeal := hPre_on_grid_ReferenceIdeal)
    ∧ preserves_Kernel_KernelIdeal
    ∧ algebraic_KernelIdeal_ReferenceIdeal_pre_on_grid_KernelIdeal (hKernelIdeal := hKernelIdeal) (hReferenceIdeal := hReferenceIdeal) (hPre_on_grid_KernelIdeal := hPre_on_grid_KernelIdeal)
-- ==== Pre_on_grid_KernelIdeal.lean ====
abbrev S4096x512 : Shape := ⟨2, ![4096, 512]⟩
abbrev S4096x8192 : Shape := ⟨2, ![4096, 8192]⟩
abbrev S_ : Shape := ⟨0, ![]⟩
abbrev S512 : Shape := ⟨1, ![512]⟩
abbrev S4096 : Shape := ⟨1, ![4096]⟩
abbrev S1x512 : Shape := ⟨2, ![1, 512]⟩
abbrev S8x512 : Shape := ⟨2, ![8, 512]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  reducesTo_S4096x512_S512_d0 : S4096x512.ReducesTo [0] S512
  reducesTo_S4096x8192_S4096_d1 : S4096x8192.ReducesTo [1] S4096
  bcast_S512_S1x512_1 : S512.BroadcastsInDim S1x512 (![1] : Fin 1 → Fin S1x512.rank)
  shapeCasts_S4096_S8x512 : S4096.ShapeCasts S8x512
  bcast_S1x512_S8x512_0_1 : S1x512.BroadcastsInDim S8x512 (![0, 1] : Fin 2 → Fin S8x512.rank)
  reducesTo_S8x512_S_d0_1 : S8x512.ReducesTo [0, 1] S_

variable [Facts]

def fn_round {F : FTy → Type} [FloatOps F] (arg0 : FVec F S4096x512 .f32) : FVec F S4096x512 .f32 :=
  let v0 : FVec F S4096x512 .f32 := Host.roundeven arg0
  v0

def fn_round_0 {F : FTy → Type} [FloatOps F] (arg0 : FVec F S4096x8192 .f32) : FVec F S4096x8192 .f32 :=
  let v0 : FVec F S4096x8192 .f32 := Host.roundeven arg0
  v0

def fn_part1 {F : FTy → Type} [FloatOps F] (main_arg0 : FVec F S4096x512 .f32) (main_arg1 : FVec F S4096x8192 .f32) (main_v6 : IVec S_ 1) (main_v13 : IVec S_ 1) (main_v15 : FVec F S4096x512 .f32) (main_cst_5 : FVec F S_ .f32) : IVec S_ 1 :=
  let main_v16 : FVec F S4096x512 .f32 := broadcastInDim S4096x512 ![] bcast_S_S4096x512 main_cst_5
  let main_v17 : FVec F S4096x512 .f32 := mulf main_arg0 main_v16
  let main_v18 : FVec F S4096x512 .f32 := fn_round (F := F) main_v17
  let main_v19 : IVec S4096x512 1 := cmpf .oeq main_v15 main_v18
  let main_c_6 : IVec S_ 1 := constantI S_ 1 1#1
  let main_v20 : IVec S512 1 := (fun x v => Host.reduce IntOp.andi x v reducesTo_S4096x512_S512_d0 h_S_) main_v19 main_c_6
  let main_cst_7 : FVec F S_ .f32 := constant S_ .f32 0x59800000#32
  let main_v21 : FVec F S4096x8192 .f32 := broadcastInDim S4096x8192 ![] bcast_S_S4096x8192 main_cst_7
  let main_v22 : FVec F S4096x8192 .f32 := mulf main_arg1 main_v21
  let main_cst_8 : FVec F S_ .f32 := constant S_ .f32 0x59800000#32
  let main_v23 : FVec F S4096x8192 .f32 := broadcastInDim S4096x8192 ![] bcast_S_S4096x8192 main_cst_8
  let main_v24 : FVec F S4096x8192 .f32 := mulf main_arg1 main_v23
  let main_v25 : FVec F S4096x8192 .f32 := fn_round_0 (F := F) main_v24
  let main_v26 : IVec S4096x8192 1 := cmpf .oeq main_v22 main_v25
  let main_c_9 : IVec S_ 1 := constantI S_ 1 1#1
  let main_v27 : IVec S4096 1 := (fun x v => Host.reduce IntOp.andi x v reducesTo_S4096x8192_S4096_d1 h_S_) main_v26 main_c_9
  let main_v28 : IVec S1x512 1 := broadcastInDim S1x512 ![1] bcast_S512_S1x512_1 main_v20
  let main_v29 : IVec S8x512 1 := shapeCast S8x512 main_v27 shapeCasts_S4096_S8x512
  let main_v30 : IVec S8x512 1 := broadcastInDim S8x512 ![0, 1] bcast_S1x512_S8x512_0_1 main_v28
  let main_v31 : IVec S8x512 1 := ori main_v30 main_v29
  let main_c_10 : IVec S_ 1 := constantI S_ 1 1#1
  let main_v32 : IVec S_ 1 := (fun x v => Host.reduce IntOp.andi x v reducesTo_S8x512_S_d0_1 h_S_) main_v31 main_c_10
  let main_v33 : IVec S_ 1 := andi main_v6 main_v13
  let main_v34 : IVec S_ 1 := andi main_v33 main_v32
  main_v34

def fn {F : FTy → Type} [FloatOps F] (main_arg0 : FVec F S4096x512 .f32) (main_arg1 : FVec F S4096x8192 .f32) : IVec S_ 1 :=
  let main_cst : FVec F S_ .f32 := constant S_ .f32 0x57000000#32
  let main_v0 : FVec F S4096x512 .f32 := broadcastInDim S4096x512 ![] bcast_S_S4096x512 main_cst
  let main_v1 : FVec F S4096x512 .f32 := mulf main_arg0 main_v0
  let main_cst_0 : FVec F S_ .f32 := constant S_ .f32 0x57000000#32
  let main_v2 : FVec F S4096x512 .f32 := broadcastInDim S4096x512 ![] bcast_S_S4096x512 main_cst_0
  let main_v3 : FVec F S4096x512 .f32 := mulf main_arg0 main_v2
  let main_v4 : FVec F S4096x512 .f32 := fn_round (F := F) main_v3
  let main_v5 : IVec S4096x512 1 := cmpf .oeq main_v1 main_v4
  let main_c : IVec S_ 1 := constantI S_ 1 1#1
  let main_v6 : IVec S_ 1 := (fun x v => Host.reduce IntOp.andi x v reducesTo_S4096x512_S_d0_1 h_S_) main_v5 main_c
  let main_cst_1 : FVec F S_ .f32 := constant S_ .f32 0x5A000000#32
  let main_v7 : FVec F S4096x8192 .f32 := broadcastInDim S4096x8192 ![] bcast_S_S4096x8192 main_cst_1
  let main_v8 : FVec F S4096x8192 .f32 := mulf main_arg1 main_v7
  let main_cst_2 : FVec F S_ .f32 := constant S_ .f32 0x5A000000#32
  let main_v9 : FVec F S4096x8192 .f32 := broadcastInDim S4096x8192 ![] bcast_S_S4096x8192 main_cst_2
  let main_v10 : FVec F S4096x8192 .f32 := mulf main_arg1 main_v9
  let main_v11 : FVec F S4096x8192 .f32 := fn_round_0 (F := F) main_v10
  let main_v12 : IVec S4096x8192 1 := cmpf .oeq main_v8 main_v11
  let main_c_3 : IVec S_ 1 := constantI S_ 1 1#1
  let main_v13 : IVec S_ 1 := (fun x v => Host.reduce IntOp.andi x v reducesTo_S4096x8192_S_d0_1 h_S_) main_v12 main_c_3
  let main_cst_4 : FVec F S_ .f32 := constant S_ .f32 0x56800000#32
  let main_v14 : FVec F S4096x512 .f32 := broadcastInDim S4096x512 ![] bcast_S_S4096x512 main_cst_4
  let main_v15 : FVec F S4096x512 .f32 := mulf main_arg0 main_v14
  let main_cst_5 : FVec F S_ .f32 := constant S_ .f32 0x56800000#32
  fn_part1 (F := F) main_arg0 main_arg1 main_v6 main_v13 main_v15 main_cst_5
-- ==== Pre_on_grid_ReferenceIdeal.lean ====
abbrev S4096x4096 : Shape := ⟨2, ![4096, 4096]⟩
abbrev S4096x8192 : Shape := ⟨2, ![4096, 8192]⟩
abbrev S_ : Shape := ⟨0, ![]⟩
abbrev S4096 : Shape := ⟨1, ![4096]⟩
abbrev S1x4096 : Shape := ⟨2, ![1, 4096]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_
  reducesTo_S4096x4096_S4096_d0 : S4096x4096.ReducesTo [0] S4096
  reducesTo_S4096x8192_S4096_d1 : S4096x8192.ReducesTo [1] S4096
  bcast_S4096_S1x4096_1 : S4096.BroadcastsInDim S1x4096 (![1] : Fin 1 → Fin S1x4096.rank)
  shapeCasts_S4096_S1x4096 : S4096.ShapeCasts S1x4096
  reducesTo_S1x4096_S_d0_1 : S1x4096.ReducesTo [0, 1] S_

variable [Facts]

def fn_round {F : FTy → Type} [FloatOps F] (arg0 : FVec F S4096x4096 .f32) : FVec F S4096x4096 .f32 :=
  let v0 : FVec F S4096x4096 .f32 := Host.roundeven arg0
  v0

def fn_round_0 {F : FTy → Type} [FloatOps F] (arg0 : FVec F S4096x8192 .f32) : FVec F S4096x8192 .f32 :=
  let v0 : FVec F S4096x8192 .f32 := Host.roundeven arg0
  v0

def fn_part1 {F : FTy → Type} [FloatOps F] (main_arg0 : FVec F S4096x4096 .f32) (main_arg1 : FVec F S4096x8192 .f32) (main_v6 : IVec S_ 1) (main_v13 : IVec S_ 1) (main_v15 : FVec F S4096x4096 .f32) (main_cst_5 : FVec F S_ .f32) : IVec S_ 1 :=
  let main_v16 : FVec F S4096x4096 .f32 := broadcastInDim S4096x4096 ![] bcast_S_S4096x4096 main_cst_5
  let main_v17 : FVec F S4096x4096 .f32 := mulf main_arg0 main_v16
  let main_v18 : FVec F S4096x4096 .f32 := fn_round (F := F) main_v17
  let main_v19 : IVec S4096x4096 1 := cmpf .oeq main_v15 main_v18
  let main_c_6 : IVec S_ 1 := constantI S_ 1 1#1
  let main_v20 : IVec S4096 1 := (fun x v => Host.reduce IntOp.andi x v reducesTo_S4096x4096_S4096_d0 h_S_) main_v19 main_c_6
  let main_cst_7 : FVec F S_ .f32 := constant S_ .f32 0x59800000#32
  let main_v21 : FVec F S4096x8192 .f32 := broadcastInDim S4096x8192 ![] bcast_S_S4096x8192 main_cst_7
  let main_v22 : FVec F S4096x8192 .f32 := mulf main_arg1 main_v21
  let main_cst_8 : FVec F S_ .f32 := constant S_ .f32 0x59800000#32
  let main_v23 : FVec F S4096x8192 .f32 := broadcastInDim S4096x8192 ![] bcast_S_S4096x8192 main_cst_8
  let main_v24 : FVec F S4096x8192 .f32 := mulf main_arg1 main_v23
  let main_v25 : FVec F S4096x8192 .f32 := fn_round_0 (F := F) main_v24
  let main_v26 : IVec S4096x8192 1 := cmpf .oeq main_v22 main_v25
  let main_c_9 : IVec S_ 1 := constantI S_ 1 1#1
  let main_v27 : IVec S4096 1 := (fun x v => Host.reduce IntOp.andi x v reducesTo_S4096x8192_S4096_d1 h_S_) main_v26 main_c_9
  let main_v28 : IVec S1x4096 1 := broadcastInDim S1x4096 ![1] bcast_S4096_S1x4096_1 main_v20
  let main_v29 : IVec S1x4096 1 := shapeCast S1x4096 main_v27 shapeCasts_S4096_S1x4096
  let main_v30 : IVec S1x4096 1 := ori main_v28 main_v29
  let main_c_10 : IVec S_ 1 := constantI S_ 1 1#1
  let main_v31 : IVec S_ 1 := (fun x v => Host.reduce IntOp.andi x v reducesTo_S1x4096_S_d0_1 h_S_) main_v30 main_c_10
  let main_v32 : IVec S_ 1 := andi main_v6 main_v13
  let main_v33 : IVec S_ 1 := andi main_v32 main_v31
  main_v33

def fn {F : FTy → Type} [FloatOps F] (main_arg0 : FVec F S4096x4096 .f32) (main_arg1 : FVec F S4096x8192 .f32) : IVec S_ 1 :=
  let main_cst : FVec F S_ .f32 := constant S_ .f32 0x57000000#32
  let main_v0 : FVec F S4096x4096 .f32 := broadcastInDim S4096x4096 ![] bcast_S_S4096x4096 main_cst
  let main_v1 : FVec F S4096x4096 .f32 := mulf main_arg0 main_v0
  let main_cst_0 : FVec F S_ .f32 := constant S_ .f32 0x57000000#32
  let main_v2 : FVec F S4096x4096 .f32 := broadcastInDim S4096x4096 ![] bcast_S_S4096x4096 main_cst_0
  let main_v3 : FVec F S4096x4096 .f32 := mulf main_arg0 main_v2
  let main_v4 : FVec F S4096x4096 .f32 := fn_round (F := F) main_v3
  let main_v5 : IVec S4096x4096 1 := cmpf .oeq main_v1 main_v4
  let main_c : IVec S_ 1 := constantI S_ 1 1#1
  let main_v6 : IVec S_ 1 := (fun x v => Host.reduce IntOp.andi x v reducesTo_S4096x4096_S_d0_1 h_S_) main_v5 main_c
  let main_cst_1 : FVec F S_ .f32 := constant S_ .f32 0x5A000000#32
  let main_v7 : FVec F S4096x8192 .f32 := broadcastInDim S4096x8192 ![] bcast_S_S4096x8192 main_cst_1
  let main_v8 : FVec F S4096x8192 .f32 := mulf main_arg1 main_v7
  let main_cst_2 : FVec F S_ .f32 := constant S_ .f32 0x5A000000#32
  let main_v9 : FVec F S4096x8192 .f32 := broadcastInDim S4096x8192 ![] bcast_S_S4096x8192 main_cst_2
  let main_v10 : FVec F S4096x8192 .f32 := mulf main_arg1 main_v9
  let main_v11 : FVec F S4096x8192 .f32 := fn_round_0 (F := F) main_v10
  let main_v12 : IVec S4096x8192 1 := cmpf .oeq main_v8 main_v11
  let main_c_3 : IVec S_ 1 := constantI S_ 1 1#1
  let main_v13 : IVec S_ 1 := (fun x v => Host.reduce IntOp.andi x v reducesTo_S4096x8192_S_d0_1 h_S_) main_v12 main_c_3
  let main_cst_4 : FVec F S_ .f32 := constant S_ .f32 0x56800000#32
  let main_v14 : FVec F S4096x4096 .f32 := broadcastInDim S4096x4096 ![] bcast_S_S4096x4096 main_cst_4
  let main_v15 : FVec F S4096x4096 .f32 := mulf main_arg0 main_v14
  let main_cst_5 : FVec F S_ .f32 := constant S_ .f32 0x56800000#32
  fn_part1 (F := F) main_arg0 main_arg1 main_v6 main_v13 main_v15 main_cst_5
-- ==== Kernel.lean ====
abbrev S4096x512 : Shape := ⟨2, ![4096, 512]⟩
abbrev S4096x8192 : Shape := ⟨2, ![4096, 8192]⟩
abbrev S512x8192 : Shape := ⟨2, ![512, 8192]⟩
abbrev S512x2048 : Shape := ⟨2, ![512, 2048]⟩
abbrev S8x128 : Shape := ⟨2, ![8, 128]⟩
abbrev S8 : Shape := ⟨1, ![8]⟩
abbrev S_ : Shape := ⟨0, ![]⟩
abbrev S1 : Shape := ⟨1, ![1]⟩
abbrev S512x512 : Shape := ⟨2, ![512, 512]⟩
abbrev S1x512x8192 : Shape := ⟨3, ![1, 512, 8192]⟩
abbrev S1x1x1 : Shape := ⟨3, ![1, 1, 1]⟩
abbrev S1x128 : Shape := ⟨2, ![1, 128]⟩
abbrev S1x8x128 : Shape := ⟨3, ![1, 8, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S512x2048, .f32⟩
  | .local _ .vmem, ⟨1, _⟩ => ⟨S512x2048, .f32⟩
  | .local _ .vmem, ⟨2, _⟩ => ⟨S4096x512, .f32⟩
  | .local _ .vmem, ⟨3, _⟩ => ⟨S512x8192, .f32⟩
  | .local _ .vmem, ⟨4, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem0_1 : DmaSem sig := 1
abbrev barrier0 : Sem sig := 0

abbrev nD : Nat := 8
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v32 : BitVec 32 := Scalar.addi v2 c1_i32_11
  let c8_i32_12 : BitVec 32 := 8#32
  let v33 : BitVec 32 := Scalar.remsi v32 c8_i32_12
  let c1_i32_14 : BitVec 32 := 1#32
  let v34 : BitVec 32 := Scalar.muli v33 c1_i32_14
  let v35 : BitVec 32 := Scalar.addi c0_i32_15 v34
  v35.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v36 : BitVec 32 := Scalar.addi v2 c2_i32
  let c8_i32_16 : BitVec 32 := 8#32
  let v37 : BitVec 32 := Scalar.remsi v36 c8_i32_16
  let c1_i32_18 : BitVec 32 := 1#32
  let v38 : BitVec 32 := Scalar.muli v37 c1_i32_18
  let v39 : BitVec 32 := Scalar.addi c0_i32_19 v38
  v39.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_20 : BitVec 32 := 3#32
  let v40 : BitVec 32 := Scalar.addi v2 c3_i32_20
  let c8_i32_21 : BitVec 32 := 8#32
  let v41 : BitVec 32 := Scalar.remsi v40 c8_i32_21
  let c1_i32_23 : BitVec 32 := 1#32
  let v42 : BitVec 32 := Scalar.muli v41 c1_i32_23
  let v43 : BitVec 32 := Scalar.addi c0_i32_24 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v44 : BitVec 32 := Scalar.addi v2 c4_i32
  let c8_i32_25 : BitVec 32 := 8#32
  let v45 : BitVec 32 := Scalar.remsi v44 c8_i32_25
  let c1_i32_27 : BitVec 32 := 1#32
  let v46 : BitVec 32 := Scalar.muli v45 c1_i32_27
  let v47 : BitVec 32 := Scalar.addi c0_i32_28 v46
  v47.toNat
def k0_dev5 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v48 : BitVec 32 := Scalar.addi v2 c5_i32
  let c8_i32_29 : BitVec 32 := 8#32
  let v49 : BitVec 32 := Scalar.remsi v48 c8_i32_29
  let c1_i32_31 : BitVec 32 := 1#32
  let v50 : BitVec 32 := Scalar.muli v49 c1_i32_31
  let v51 : BitVec 32 := Scalar.addi c0_i32_32 v50
  v51.toNat
def k0_dev6 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v52 : BitVec 32 := Scalar.addi v2 c6_i32
  let c8_i32_33 : BitVec 32 := 8#32
  let v53 : BitVec 32 := Scalar.remsi v52 c8_i32_33
  let c1_i32_35 : BitVec 32 := 1#32
  let v54 : BitVec 32 := Scalar.muli v53 c1_i32_35
  let v55 : BitVec 32 := Scalar.addi c0_i32_36 v54
  v55.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_37 : BitVec 32 := 7#32
  let v56 : BitVec 32 := Scalar.addi v2 c7_i32_37
  let c8_i32_38 : BitVec 32 := 8#32
  let v57 : BitVec 32 := Scalar.remsi v56 c8_i32_38
  let c1_i32_40 : BitVec 32 := 1#32
  let v58 : BitVec 32 := Scalar.muli v57 c1_i32_40
  let v59 : BitVec 32 := Scalar.addi c0_i32_41 v58
  v59.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_46 : BitVec 32 := 512#32
  let v63 : BitVec 32 := Scalar.muli v2 c512_i32_46
  let c0_i32_50 : BitVec 32 := 0#32
  ![v63.toNat, 0]
def k0_off3 (d0 : Dev nD) (c1_i32_43 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : BitVec 32 := Scalar.addi v2 c1_i32_43
  let c8_i32_44 : BitVec 32 := 8#32
  let v61 : BitVec 32 := Scalar.remsi v60 c8_i32_44
  let c512_i32_45 : BitVec 32 := 512#32
  let v62 : BitVec 32 := Scalar.muli v61 c512_i32_45
  let c0_i32_51 : BitVec 32 := 0#32
  ![v62.toNat, 0]
def k0_dev8 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_43 : BitVec 32 := 1#32
  let v60 : BitVec 32 := Scalar.addi v2 c1_i32_43
  let c8_i32_44 : BitVec 32 := 8#32
  let v61 : BitVec 32 := Scalar.remsi v60 c8_i32_44
  let c1_i32_48 : BitVec 32 := 1#32
  let v64 : BitVec 32 := Scalar.muli v61 c1_i32_48
  let v65 : BitVec 32 := Scalar.addi c0_i32_49 v64
  v65.toNat
def k0_dev9 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_52 : BitVec 32 := 2#32
  let v72 : BitVec 32 := Scalar.addi v2 c2_i32_52
  let c8_i32_53 : BitVec 32 := 8#32
  let v73 : BitVec 32 := Scalar.remsi v72 c8_i32_53
  let c1_i32_57 : BitVec 32 := 1#32
  let v76 : BitVec 32 := Scalar.muli v73 c1_i32_57
  let v77 : BitVec 32 := Scalar.addi c0_i32_58 v76
  v77.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v84 : BitVec 32 := Scalar.addi v2 c3_i32_61
  let c8_i32_62 : BitVec 32 := 8#32
  let v85 : BitVec 32 := Scalar.remsi v84 c8_i32_62
  let c1_i32_66 : BitVec 32 := 1#32
  let v88 : BitVec 32 := Scalar.muli v85 c1_i32_66
  let v89 : BitVec 32 := Scalar.addi c0_i32_67 v88
  v89.toNat
def k0_dev11 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v96 : BitVec 32 := Scalar.addi v2 c4_i32_70
  let c8_i32_71 : BitVec 32 := 8#32
  let v97 : BitVec 32 := Scalar.remsi v96 c8_i32_71
  let c1_i32_75 : BitVec 32 := 1#32
  let v100 : BitVec 32 := Scalar.muli v97 c1_i32_75
  let v101 : BitVec 32 := Scalar.addi c0_i32_76 v100
  v101.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_79 : BitVec 32 := 5#32
  let v108 : BitVec 32 := Scalar.addi v2 c5_i32_79
  let c8_i32_80 : BitVec 32 := 8#32
  let v109 : BitVec 32 := Scalar.remsi v108 c8_i32_80
  let c1_i32_84 : BitVec 32 := 1#32
  let v112 : BitVec 32 := Scalar.muli v109 c1_i32_84
  let v113 : BitVec 32 := Scalar.addi c0_i32_85 v112
  v113.toNat
def k0_dev13 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_88 : BitVec 32 := 6#32
  let v120 : BitVec 32 := Scalar.addi v2 c6_i32_88
  let c8_i32_89 : BitVec 32 := 8#32
  let v121 : BitVec 32 := Scalar.remsi v120 c8_i32_89
  let c1_i32_93 : BitVec 32 := 1#32
  let v124 : BitVec 32 := Scalar.muli v121 c1_i32_93
  let v125 : BitVec 32 := Scalar.addi c0_i32_94 v124
  v125.toNat
def k0_dev14 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_97 : BitVec 32 := 7#32
  let v132 : BitVec 32 := Scalar.addi v2 c7_i32_97
  let c8_i32_98 : BitVec 32 := 8#32
  let v133 : BitVec 32 := Scalar.remsi v132 c8_i32_98
  let c1_i32_102 : BitVec 32 := 1#32
  let v136 : BitVec 32 := Scalar.muli v133 c1_i32_102
  let v137 : BitVec 32 := Scalar.addi c0_i32_103 v136
  v137.toNat
def k0_cond2 (i : grid0.Coords) (d0 : Dev nD) : BitVec 1 :=
  let arg1 : BitVec 32 := BitVec.ofNat 32 (i 1).val
  let c0_i32_2 : BitVec 32 := 0#32
  let v8 : BitVec 1 := Scalar.cmpi .eq arg1 c0_i32_2
  let arg0 : BitVec 32 := BitVec.ofNat 32 (i 0).val
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 1 := Scalar.cmpi .ne arg0 v2
  let v10 : BitVec 1 := Scalar.andi v8 v9
  let v11 : BitVec 32 := Scalar.extui v10
  let c0_i32_3 : BitVec 32 := 0#32
  let v12 : BitVec 1 := Scalar.cmpi .ne v11 c0_i32_3
  v12

def k0_off4 (i : grid0.Coords) : Fin 1 → Nat :=
  let arg0 : BitVec 32 := BitVec.ofNat 32 (i 0).val
  ![arg0.toNat]
def k0_off5 (i : grid0.Coords) : Fin 2 → Nat :=
  let arg0 : BitVec 32 := BitVec.ofNat 32 (i 0).val
  let c512_i32_11 : BitVec 32 := 512#32
  let v31 : BitVec 32 := Scalar.muli arg0 c512_i32_11
  let c0_i32_15 : BitVec 32 := 0#32
  ![v31.toNat, 0]
def k0_off6 (i : grid0.Coords) : Fin 2 → Nat :=
  let arg0 : BitVec 32 := BitVec.ofNat 32 (i 0).val
  let c512_i32 : BitVec 32 := 512#32
  let v13 : BitVec 32 := Scalar.muli arg0 c512_i32
  let v14 : Index := Scalar.indexCast v13
  let c0 : Index := 0#32
  ![v14.toNat, 0]
def k0_cond3 (i : grid0.Coords) : BitVec 1 :=
  let arg0 : BitVec 32 := BitVec.ofNat 32 (i 0).val
  let c0_i32_6 : BitVec 32 := 0#32
  let v20 : BitVec 1 := Scalar.cmpi .eq arg0 c0_i32_6
  let v21 : BitVec 32 := Scalar.extui v20
  let c0_i32_7 : BitVec 32 := 0#32
  let v22 : BitVec 1 := Scalar.cmpi .ne v21 c0_i32_7
  v22

def k0_off7 (i : grid0.Coords) : Fin 2 → Nat :=
  let c0_11 : Index := 0#32
  let arg1 : BitVec 32 := BitVec.ofNat 32 (i 1).val
  let c2048_i32 : BitVec 32 := 2048#32
  let v19 : BitVec 32 := Scalar.muli arg1 c2048_i32
  let v31 : Index := Scalar.indexCast v19
  ![0, v31.toNat]
def k0_cond4 (i : grid0.Coords) : BitVec 1 :=
  let arg0 : BitVec 32 := BitVec.ofNat 32 (i 0).val
  let c0_i32_8 : BitVec 32 := 0#32
  let v23 : BitVec 1 := Scalar.cmpi .ne arg0 c0_i32_8
  let v24 : BitVec 32 := Scalar.extui v23
  let c0_i32_9 : BitVec 32 := 0#32
  let v25 : BitVec 1 := Scalar.cmpi .ne v24 c0_i32_9
  v25

def k0_off8 (i : grid0.Coords) : Fin 2 → Nat :=
  let c0_11 : Index := 0#32
  let arg1 : BitVec 32 := BitVec.ofNat 32 (i 1).val
  let c2048_i32 : BitVec 32 := 2048#32
  let v19 : BitVec 32 := Scalar.muli arg1 c2048_i32
  let v31 : Index := Scalar.indexCast v19
  ![0, v31.toNat]
def k0_cond5 (i : grid0.Coords) : BitVec 1 :=
  let arg0 : BitVec 32 := BitVec.ofNat 32 (i 0).val
  let c7_i32 : BitVec 32 := 7#32
  let v26 : BitVec 1 := Scalar.cmpi .eq arg0 c7_i32
  let arg1 : BitVec 32 := BitVec.ofNat 32 (i 1).val
  let c3_i32 : BitVec 32 := 3#32
  let v27 : BitVec 1 := Scalar.cmpi .eq arg1 c3_i32
  let v28 : BitVec 1 := Scalar.andi v26 v27
  let v29 : BitVec 32 := Scalar.extui v28
  let c0_i32_10 : BitVec 32 := 0#32
  let v30 : BitVec 1 := Scalar.cmpi .ne v29 c0_i32_10
  v30

def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : Index := Scalar.indexCast v2
  let c0_15 : Index := 0#32
  ![v39.toNat, 0]
def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_21 : BitVec 32 := 0#32
  ![v2.toNat, 0]
def k0_dev15 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v43 : BitVec 32 := Scalar.addi v2 c1_i32_16
  let c8_i32_17 : BitVec 32 := 8#32
  let v44 : BitVec 32 := Scalar.remsi v43 c8_i32_17
  let c1_i32_19 : BitVec 32 := 1#32
  let v45 : BitVec 32 := Scalar.muli v44 c1_i32_19
  let v46 : BitVec 32 := Scalar.addi c0_i32_20 v45
  v46.toNat
def k0_dev16 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v53 : BitVec 32 := Scalar.addi v2 c2_i32
  let c8_i32_23 : BitVec 32 := 8#32
  let v54 : BitVec 32 := Scalar.remsi v53 c8_i32_23
  let c1_i32_25 : BitVec 32 := 1#32
  let v55 : BitVec 32 := Scalar.muli v54 c1_i32_25
  let v56 : BitVec 32 := Scalar.addi c0_i32_26 v55
  v56.toNat
def k0_dev17 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_29 : BitVec 32 := 3#32
  let v63 : BitVec 32 := Scalar.addi v2 c3_i32_29
  let c8_i32_30 : BitVec 32 := 8#32
  let v64 : BitVec 32 := Scalar.remsi v63 c8_i32_30
  let c1_i32_32 : BitVec 32 := 1#32
  let v65 : BitVec 32 := Scalar.muli v64 c1_i32_32
  let v66 : BitVec 32 := Scalar.addi c0_i32_33 v65
  v66.toNat
def k0_dev18 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v73 : BitVec 32 := Scalar.addi v2 c4_i32
  let c8_i32_36 : BitVec 32 := 8#32
  let v74 : BitVec 32 := Scalar.remsi v73 c8_i32_36
  let c1_i32_38 : BitVec 32 := 1#32
  let v75 : BitVec 32 := Scalar.muli v74 c1_i32_38
  let v76 : BitVec 32 := Scalar.addi c0_i32_39 v75
  v76.toNat
def k0_dev19 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v83 : BitVec 32 := Scalar.addi v2 c5_i32
  let c8_i32_42 : BitVec 32 := 8#32
  let v84 : BitVec 32 := Scalar.remsi v83 c8_i32_42
  let c1_i32_44 : BitVec 32 := 1#32
  let v85 : BitVec 32 := Scalar.muli v84 c1_i32_44
  let v86 : BitVec 32 := Scalar.addi c0_i32_45 v85
  v86.toNat
def k0_dev20 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v93 : BitVec 32 := Scalar.addi v2 c6_i32
  let c8_i32_48 : BitVec 32 := 8#32
  let v94 : BitVec 32 := Scalar.remsi v93 c8_i32_48
  let c1_i32_50 : BitVec 32 := 1#32
  let v95 : BitVec 32 := Scalar.muli v94 c1_i32_50
  let v96 : BitVec 32 := Scalar.addi c0_i32_51 v95
  v96.toNat
def k0_dev21 (d0 : Dev nD) : Nat :=
  let c0_i32_58 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_54 : BitVec 32 := 7#32
  let v103 : BitVec 32 := Scalar.addi v2 c7_i32_54
  let c8_i32_55 : BitVec 32 := 8#32
  let v104 : BitVec 32 := Scalar.remsi v103 c8_i32_55
  let c1_i32_57 : BitVec 32 := 1#32
  let v105 : BitVec 32 := Scalar.muli v104 c1_i32_57
  let v106 : BitVec 32 := Scalar.addi c0_i32_58 v105
  v106.toNat
def k0_off12 (d0 : Dev nD) (c1_i32_61 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.addi v2 c1_i32_61
  let c8_i32_62 : BitVec 32 := 8#32
  let v114 : BitVec 32 := Scalar.remsi v113 c8_i32_62
  ![v114.toNat]
def k0_off13 (d0 : Dev nD) (c1_i32_61 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.addi v2 c1_i32_61
  let c8_i32_62 : BitVec 32 := 8#32
  let v114 : BitVec 32 := Scalar.remsi v113 c8_i32_62
  let c0_i32_66 : BitVec 32 := 0#32
  ![v114.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Common.lean ====
/- The protocol of the fused all-to-all: which semaphore cell is paid by whom, in which round, and what is handed over
   with each payment (with the contents the buffers hold then). Everything is stated at a symbolic device `c` and over
   any float values `F`. -/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, and the protocol's with a device as the name of a duty -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## Peers -/

/-- The device `d` places after `c` on the ring of eight. -/
def peer (c : Dev nD) (d : ℕ) : Dev nD := ⟨(c.val + d) % 8, Nat.mod_lt _ (by decide)⟩

theorem dev_eq_peer {c : Dev nD} {d n : ℕ} (hn : n < nD) (h : n = (c.val + d) % 8) : (⟨n, hn⟩ : Dev nD) = peer c d := Fin.ext h

/-! ## The semaphores -/

abbrev barS : Sem sig := (SemArray.scalar (sig.barrier 0 rfl) : Sems sig S_).sem
def sendS (j : Fin 8) : DmaSem sig := ⟨2 + j.val, by have := j.isLt; show _ < 35; omega⟩
def recvS (j : Fin 8) : DmaSem sig := ⟨10 + j.val, by have := j.isLt; show _ < 35; omega⟩
def asendS (j : Fin 8) : DmaSem sig := ⟨18 + j.val, by have := j.isLt; show _ < 35; omega⟩
def arecvS (j : Fin 8) : DmaSem sig := ⟨26 + j.val, by have := j.isLt; show _ < 35; omega⟩
def locS : DmaSem sig := ⟨34, by show _ < 35; omega⟩

abbrev barCell (c : Dev nD) : GSem nD τ sig := ((c : Thread nD τ), .reg barS)
abbrev sendCell (c : Dev nD) (j : Fin 8) : GSem nD τ sig := ((c : Thread nD τ), .dma (sendS j))
abbrev recvCell (c : Dev nD) (j : Fin 8) : GSem nD τ sig := ((c : Thread nD τ), .dma (recvS j))
abbrev asendCell (c : Dev nD) (j : Fin 8) : GSem nD τ sig := ((c : Thread nD τ), .dma (asendS j))
abbrev arecvCell (c : Dev nD) (j : Fin 8) : GSem nD τ sig := ((c : Thread nD τ), .dma (arecvS j))
abbrev locCell (c : Dev nD) : GSem nD τ sig := ((c : Thread nD τ), .dma locS)

/-- The kernel's own semaphores, numbered: barrier, eight of each of the four arrays, the local one. -/
def csem (k : Fin 34) : SemLoc sig := if k = 0 then .reg barS else .dma ⟨k.val + 1, by have := k.isLt; show _ < 35; omega⟩
/-- The DMA ones among them. -/
def osem (k : Fin 33) : SemLoc sig := .dma ⟨k.val + 2, by have := k.isLt; show _ < 35; omega⟩
abbrev kcell (ck : Dev nD × Fin 34) : GSem nD τ sig := ((ck.1 : Thread nD τ), csem ck.2)

def kSend (j : Fin 8) : Fin 34 := ⟨1 + j.val, by omega⟩
def kRecv (j : Fin 8) : Fin 34 := ⟨9 + j.val, by omega⟩
def kASend (j : Fin 8) : Fin 34 := ⟨17 + j.val, by omega⟩
def kARecv (j : Fin 8) : Fin 34 := ⟨25 + j.val, by omega⟩
def kLoc : Fin 34 := ⟨33, by omega⟩

theorem csem_bar : csem 0 = .reg barS := rfl
theorem csem_send (j : Fin 8) : csem (kSend j) = .dma (sendS j) := by revert j; decide
theorem csem_recv (j : Fin 8) : csem (kRecv j) = .dma (recvS j) := by revert j; decide
theorem csem_asend (j : Fin 8) : csem (kASend j) = .dma (asendS j) := by revert j; decide
theorem csem_arecv (j : Fin 8) : csem (kARecv j) = .dma (arecvS j) := by revert j; decide
theorem csem_loc : csem kLoc = .dma locS := by decide

theorem kcell_bar (c : Dev nD) : kcell (c, 0) = barCell c := rfl
theorem kcell_send (c : Dev nD) (j : Fin 8) : kcell (c, kSend j) = sendCell c j := by unfold kcell; rw [csem_send]
theorem kcell_recv (c : Dev nD) (j : Fin 8) : kcell (c, kRecv j) = recvCell c j := by unfold kcell; rw [csem_recv]
theorem kcell_asend (c : Dev nD) (j : Fin 8) : kcell (c, kASend j) = asendCell c j := by unfold kcell; rw [csem_asend]
theorem kcell_arecv (c : Dev nD) (j : Fin 8) : kcell (c, kARecv j) = arecvCell c j := by unfold kcell; rw [csem_arecv]
theorem kcell_loc (c : Dev nD) : kcell (c, kLoc) = locCell c := by unfold kcell; rw [csem_loc]

/-- What a semaphore is for. -/
inductive Role where
  | bar | send (j : Fin 8) | recv (j : Fin 8) | asend (j : Fin 8) | arecv (j : Fin 8) | loc | other
  deriving DecidableEq

def kindOf (s : SemLoc sig) : Role := match s with
  | .reg s => if s = barS then .bar else .other
  | .dma q =>
    if h : 2 ≤ q.val ∧ q.val < 10 then .send ⟨q.val - 2, by omega⟩
    else if h : 10 ≤ q.val ∧ q.val < 18 then .recv ⟨q.val - 10, by omega⟩
    else if h : 18 ≤ q.val ∧ q.val < 26 then .asend ⟨q.val - 18, by omega⟩
    else if h : 26 ≤ q.val ∧ q.val < 34 then .arecv ⟨q.val - 26, by omega⟩
    else if q.val = 34 then .loc else .other

theorem kind_bar : kindOf (.reg barS) = .bar := by decide
theorem kind_send (j : Fin 8) : kindOf (.dma (sendS j)) = .send j := by revert j; decide
theorem kind_recv (j : Fin 8) : kindOf (.dma (recvS j)) = .recv j := by revert j; decide
theorem kind_asend (j : Fin 8) : kindOf (.dma (asendS j)) = .asend j := by revert j; decide
theorem kind_arecv (j : Fin 8) : kindOf (.dma (arecvS j)) = .arecv j := by revert j; decide
theorem kind_loc : kindOf (.dma locS) = .loc := by decide

/-! ## The buffers and their blocks -/

abbrev xM : Memref sig .tc .hbm S4096x512 .f32 := Memref.whole main_arg0
abbrev oM : Memref sig .tc .hbm S512x8192 .f32 := Memref.whole main_v1
abbrev cM : Memref sig .tc .vmem S4096x512 .f32 := Memref.whole cc0_scratch0
abbrev aM : Memref sig .tc .vmem S512x8192 .f32 := Memref.whole cc0_scratch1
abbrev mM : Memref sig .tc .vmem S8x128 .f32 := Memref.whole cc0_scratch2

theorem inbRow (k : Fin 8) : ∀ a, (![512 * k.val, 0] : Fin 2 → ℕ) a + S512x512.size a ≤ S4096x512.size a :=
  Fin.forall_fin_two.mpr ⟨by show 512 * k.val + 512 ≤ 4096; omega, by show 0 + 512 ≤ 512; omega⟩
theorem inbMax (k : Fin 8) : ∀ a, (![k.val, 0] : Fin 2 → ℕ) a + S1x128.size a ≤ S8x128.size a :=
  Fin.forall_fin_two.mpr ⟨by show k.val + 1 ≤ 8; omega, by show 0 + 128 ≤ 128; omega⟩
theorem inbCol (n : Fin 4) : ∀ a, (![0, 2048 * n.val] : Fin 2 → ℕ) a + S512x2048.size a ≤ S512x8192.size a :=
  Fin.forall_fin_two.mpr ⟨by show 0 + 512 ≤ 512; omega, by show 2048 * n.val + 2048 ≤ 8192; omega⟩

/-- The 512 rows of block `k`; row `k` of the table of maxima; the 2048 columns of block `n` of the accumulator. -/
abbrev rowR (k : Fin 8) : Rect S4096x512 := Rect.unit (s := S4096x512) ![512 * k.val, 0] S512x512.size (inbRow k)
abbrev maxR (k : Fin 8) : Rect S8x128 := Rect.unit (s := S8x128) ![k.val, 0] S1x128.size (inbMax k)
abbrev colR (n : Fin 4) : Rect S512x8192 := Rect.unit (s := S512x8192) ![0, 2048 * n.val] S512x2048.size (inbCol n)

abbrev xB (k : Fin 8) : Memref sig .tc .hbm S512x512 .f32 := xM.slice (rowR k) (fun _ => rfl)
abbrev cB (k : Fin 8) : Memref sig .tc .vmem S512x512 .f32 := cM.slice (rowR k) (fun _ => rfl)
abbrev mB (k : Fin 8) : Memref sig .tc .vmem S1x128 .f32 := mM.slice (maxR k) (fun _ => rfl)

abbrev xBuf (c : Dev nD) : Buf (Elt F) ((c : Thread nD τ).loc main_arg0) := m ((c : Thread nD τ).loc main_arg0)

/-- Block `k` of device `c`'s operand, at its launch contents. -/
def xPts (c : Dev nD) (k : Fin 8) : sProp 𝕄 :=
  (xB k).view.loc (c : Thread nD τ) ↦[(xB k).view.set]{fullShare} xBuf m c
/-- Block `k` of device `c`'s landing buffer. -/
def cPts (c : Dev nD) (k : Fin 8) (f : (cc0_scratch0 : Ref sig .tc).ty.Contents (Elt F)) : sProp 𝕄 :=
  (cB k).view.loc (c : Thread nD τ) ↦[(cB k).view.set]{fullShare} f
/-- Row `k` of device `c`'s table of maxima, at share `q`. -/
def mPts (c : Dev nD) (k : Fin 8) (q : PosShare TreeShare) (f : (cc0_scratch2 : Ref sig .tc).ty.Contents (Elt F)) : sProp 𝕄 :=
  (mB k).view.loc (c : Thread nD τ) ↦[(mB k).view.set]{q} f
def aPts (c : Dev nD) (f : (cc0_scratch1 : Ref sig .tc).ty.Contents (Elt F)) : sProp 𝕄 :=
  aM.view.loc (c : Thread nD τ) ↦[aM.view.set]{fullShare} f
def oPts (c : Dev nD) (f : (main_v1 : Ref sig .tc).ty.Contents (Elt F)) : sProp 𝕄 :=
  oM.view.loc (c : Thread nD τ) ↦[oM.view.set]{fullShare} f

/-! ## Contents -/

/-- What device `c`'s landing buffer holds once every block has landed: block `k` is block `c` of device `k`'s operand. -/
def commF (c : Dev nD) : (cc0_scratch0 : Ref sig .tc).ty.Contents (Elt F) := fun i =>
  xBuf m (⟨(i 0).val / 512, by have : (i 0).val < 4096 := (i 0).isLt; show _ < 8; omega⟩ : Dev nD)
    (ix2 (n0 := 4096) (n1 := 512) ⟨512 * c.val + (i 0).val % 512, by have : c.val < 8 := c.isLt; omega⟩ (i 1))

/-- Grid point `4 * k + n`. -/
def ptOf (k n : ℕ) : Fin cfg0.N := ⟨(4 * k + n) % 32, lt_of_lt_of_eq (Nat.mod_lt _ (by decide)) N_0.symm⟩
/-- The weight block the pipeline stages at point `t`. -/
abbrev wv (c : Dev nD) (t : Fin cfg0.N) : Vec F S512x2048 .f32 := iblk m c 0 t
/-- Block `k` of the landing buffer, as the body loads it. -/
def xv (c : Dev nD) (k : ℕ) : Vec F S512x512 .f32 := (cB ⟨k % 8, Nat.mod_lt _ (by decide)⟩).view.read (Elt F) (commF m c)

/-- Column block `n` of the accumulator after the products of blocks `0..k`. -/
def part (c : Dev nD) (n : ℕ) : ℕ → Vec F S512x2048 .f32
  | 0 => k0_pay2 (xv m c 0) (wv m c (ptOf 0 n))
  | k + 1 => k0_pay3 (xv m c (k + 1)) (wv m c (ptOf (k + 1) n)) (part c n k)

/-- The accumulator before point `t`: each column block already visited holds the products so far. -/
def AccOK (c : Dev nD) (t : ℕ) (f : (cc0_scratch1 : Ref sig .tc).ty.Contents (Elt F)) : Prop :=
  ∀ n : Fin 4, n.val < t → (aM.view.slice (colR n)).read (Elt F) f = part m c n.val ((t - 1 - n.val) / 4)

/-- The accumulator after the last product. -/
def accF (c : Dev nD) : (cc0_scratch1 : Ref sig .tc).ty.Contents (Elt F) := fun i =>
  part m c ((i 1).val / 2048) 7 (ix2 (n0 := 512) (n1 := 2048) (i 0) ⟨(i 1).val % 2048, Nat.mod_lt _ (by decide)⟩)

/-- The table of maxima once every row is in: row `k` is device `k`'s. -/
def amaxF : (cc0_scratch2 : Ref sig .tc).ty.Contents (Elt F) := fun i =>
  k0_pay5 (accF m (⟨(i 0).val, (i 0).isLt⟩ : Dev nD)) (ix2 (n0 := 1) (n1 := 128) 0 (i 1))

/-- The result on device `c`. -/
def outF (c : Dev nD) : (cc0_scratch1 : Ref sig .tc).ty.Contents (Elt F) :=
  k0_pay4 (k0_pay6 (amaxF m)) (accF m c) k0_pay7

/-! ## The schedule -/

def N1 : ℕ := (cB 0).view.dmaCredit
def N2 : ℕ := (mB 0).view.dmaCredit
def N3 : ℕ := oM.view.dmaCredit
theorem N1_pos : 0 < N1 := View.dmaCredit_pos _ (by decide)
theorem N2_pos : 0 < N2 := View.dmaCredit_pos _ (by decide)
theorem N3_pos : 0 < N3 := View.dmaCredit_pos _ (by decide)

/-- With its barrier signal to `c`, device `p` lends `c` its landing block `c` and row `c` of its table. -/
def barPay (c p : Dev nD) : sProp 𝕄 := iprop((∃ f, cPts p c f) ∗ (∃ f, mPts p c fullShare f))

def dutiesK (c : Dev nD) (k : Role) (r : ℕ) : Finset (Dev nD) := match k with
  | .bar => if r = 0 then Finset.univ.erase c else ∅
  | .send j => if r = 0 ∧ j ≠ 7 then {0} else ∅
  | .recv j => if r = 0 ∧ j ≠ c then {0} else ∅
  | .asend j => if r = 0 ∧ j ≠ 7 then {0} else ∅
  | .arecv j => if r = 0 ∧ j ≠ c then {0} else ∅
  | .loc => if r < 2 then {0} else ∅
  | .other => ∅

def amountK (k : Role) (r : ℕ) : ℕ := match k with
  | .bar => 1
  | .send _ => N1
  | .recv _ => N1
  | .asend _ => N2
  | .arecv _ => N2
  | .loc => if r = 0 then N1 else N3
  | .other => 1

theorem amountK_pos (k : Role) (r : ℕ) : 0 < amountK k r := by
  cases k
  · exact Nat.one_pos
  · exact N1_pos
  · exact N1_pos
  · exact N2_pos
  · exact N2_pos
  · show 0 < (if r = 0 then N1 else N3)
    by_cases h : r = 0
    · rw [if_pos h]; exact N1_pos
    · rw [if_neg h]; exact N3_pos
  · exact Nat.one_pos

def payK (c : Dev nD) (k : Role) (r : ℕ) (d : Dev nD) : sProp 𝕄 := match k with
  | .bar => barPay c d
  | .send j => xPts m c (peer c (j.val + 1))
  | .recv j => cPts c j (commF m c)
  | .asend j => mPts c c (Transfers.shareTok fullShare 8 j) (amaxF m)
  | .arecv j => mPts c j fullShare (amaxF m)
  | .loc => if r = 0 then iprop(cPts c c (commF m c) ∗ xPts m c c) else iprop(oPts c (outF m c) ∗ aPts c (outF m c))
  | .other => iprop(emp)

def sched : Rounds.Schedule (GSem nD τ sig) (Dev nD) 𝕄 where
  duties g r := if g.1.2 = .tc then dutiesK g.1.1 (kindOf g.2) r else ∅
  unitless _ := False
  amount g r _ := amountK (kindOf g.2) r
  payload g r d := payK m g.1.1 (kindOf g.2) r d
  amount_pos g r _ _ := by
    exact amountK_pos _ _

omit [FloatOps F] in
instance xPts_storable (c k) : BI.Storable (upEmb : UEmb _ 𝕄) (xPts (F := F) m c k) := by unfold xPts; infer_instance
omit [FloatOps F] in
instance cPts_storable (c k f) : BI.Storable (upEmb : UEmb _ 𝕄) (cPts (F := F) c k f) := by unfold cPts; infer_instance
omit [FloatOps F] in
instance mPts_storable (c k q f) : BI.Storable (upEmb : UEmb _ 𝕄) (mPts (F := F) c k q f) := by unfold mPts; infer_instance
omit [FloatOps F] in
instance aPts_storable (c f) : BI.Storable (upEmb : UEmb _ 𝕄) (aPts (F := F) c f) := by unfold aPts; infer_instance
omit [FloatOps F] in
instance oPts_storable (c f) : BI.Storable (upEmb : UEmb _ 𝕄) (oPts (F := F) c f) := by unfold oPts; infer_instance

instance sched_payload_storable (g : GSem nD τ sig) (r : ℕ) (d : Dev nD) :
    BI.Storable (upEmb : UEmb _ 𝕄) ((sched (F := F) m).payload g r d) := by
  show BI.Storable upEmb (payK m g.1.1 (kindOf g.2) r d)
  unfold payK barPay
  (repeat' split) <;> infer_instance

section Sched
variable (c : Dev nD)

theorem duties_eq (s : SemLoc sig) (r : ℕ) : (sched (F := F) m).duties ((c : Thread nD τ), s) r = dutiesK c (kindOf s) r := by
  dsimp only [sched]; exact if_pos rfl
theorem amount_eq (s : SemLoc sig) (r : ℕ) (d : Dev nD) : (sched (F := F) m).amount ((c : Thread nD τ), s) r d = amountK (kindOf s) r := rfl
theorem payload_eq (s : SemLoc sig) (r : ℕ) (d : Dev nD) : (sched (F := F) m).payload ((c : Thread nD τ), s) r d = payK m c (kindOf s) r d := rfl

theorem duties_bar : (sched (F := F) m).duties (barCell c) 0 = Finset.univ.erase c := by
  rw [duties_eq, kind_bar]; rfl
theorem duties_send (j : Fin 8) (h : j ≠ 7) : (sched (F := F) m).duties (sendCell c j) 0 = {0} := by
  rw [duties_eq, kind_send]; exact if_pos ⟨rfl, h⟩
theorem duties_recv (j : Fin 8) (h : j ≠ c) : (sched (F := F) m).duties (recvCell c j) 0 = {0} := by
  rw [duties_eq, kind_recv]; exact if_pos ⟨rfl, h⟩
theorem duties_asend (j : Fin 8) (h : j ≠ 7) : (sched (F := F) m).duties (asendCell c j) 0 = {0} := by
  rw [duties_eq, kind_asend]; exact if_pos ⟨rfl, h⟩
theorem duties_arecv (j : Fin 8) (h : j ≠ c) : (sched (F := F) m).duties (arecvCell c j) 0 = {0} := by
  rw [duties_eq, kind_arecv]; exact if_pos ⟨rfl, h⟩
theorem duties_loc (r : ℕ) (h : r < 2) : (sched (F := F) m).duties (locCell c) r = {0} := by
  rw [duties_eq, kind_loc]; exact if_pos h

theorem duties_later (g : GSem nD τ sig) (hg : kindOf g.2 ≠ .loc) : ∀ r, 1 ≤ r → (sched (F := F) m).duties g r = ∅ := by
  intro r hr
  have h0 : r ≠ 0 := by omega
  dsimp only [sched]; split
  · generalize kindOf g.2 = k at hg
    cases k
    case loc => exact absurd rfl hg
    case bar => exact if_neg h0
    case other => rfl
    all_goals exact if_neg (fun h => h0 h.1)
  · rfl
theorem duties_loc_later : ∀ r, 2 ≤ r → (sched (F := F) m).duties (locCell c) r = ∅ := by
  intro r hr
  rw [duties_eq, kind_loc]; exact if_neg (by omega)
/-- The unused cells of the four arrays have no duty at all. -/
theorem duties_none :
    (∀ r, (sched (F := F) m).duties (sendCell c 7) r = ∅) ∧ (∀ r, (sched (F := F) m).duties (recvCell c c) r = ∅)
    ∧ (∀ r, (sched (F := F) m).duties (asendCell c 7) r = ∅) ∧ (∀ r, (sched (F := F) m).duties (arecvCell c c) r = ∅) := by
  refine ⟨fun r => ?_, fun r => ?_, fun r => ?_, fun r => ?_⟩ <;> rw [duties_eq]
  · rw [kind_send]; exact if_neg (fun h => h.2 rfl)
  · rw [kind_recv]; exact if_neg (fun h => h.2 rfl)
  · rw [kind_asend]; exact if_neg (fun h => h.2 rfl)
  · rw [kind_arecv]; exact if_neg (fun h => h.2 rfl)

theorem amount_bar (d : Dev nD) : (sched (F := F) m).amount (barCell c) 0 d = 1 := by
  rw [amount_eq, kind_bar]; rfl
theorem amount_send (j : Fin 8) (d : Dev nD) : (sched (F := F) m).amount (sendCell c j) 0 d = N1 := by
  rw [amount_eq, kind_send]; rfl
theorem amount_recv (j : Fin 8) (d : Dev nD) : (sched (F := F) m).amount (recvCell c j) 0 d = N1 := by
  rw [amount_eq, kind_recv]; rfl
theorem amount_asend (j : Fin 8) (d : Dev nD) : (sched (F := F) m).amount (asendCell c j) 0 d = N2 := by
  rw [amount_eq, kind_asend]; rfl
theorem amount_arecv (j : Fin 8) (d : Dev nD) : (sched (F := F) m).amount (arecvCell c j) 0 d = N2 := by
  rw [amount_eq, kind_arecv]; rfl
theorem amount_loc0 (d : Dev nD) : (sched (F := F) m).amount (locCell c) 0 d = N1 := by
  rw [amount_eq, kind_loc]; rfl
theorem amount_loc1 (d : Dev nD) : (sched (F := F) m).amount (locCell c) 1 d = N3 := by
  rw [amount_eq, kind_loc]; rfl

theorem payload_bar (d : Dev nD) : (sched (F := F) m).payload (barCell c) 0 d = barPay c d := by
  rw [payload_eq, kind_bar]; rfl
theorem payload_send (j : Fin 8) (d : Dev nD) : (sched (F := F) m).payload (sendCell c j) 0 d = xPts m c (peer c (j.val + 1)) := by
  rw [payload_eq, kind_send]; rfl
theorem payload_recv (j : Fin 8) (d : Dev nD) : (sched (F := F) m).payload (recvCell c j) 0 d = cPts c j (commF m c) := by
  rw [payload_eq, kind_recv]; rfl
theorem payload_asend (j : Fin 8) (d : Dev nD) :
    (sched (F := F) m).payload (asendCell c j) 0 d = mPts c c (Transfers.shareTok fullShare 8 j) (amaxF m) := by
  rw [payload_eq, kind_asend]; rfl
theorem payload_arecv (j : Fin 8) (d : Dev nD) : (sched (F := F) m).payload (arecvCell c j) 0 d = mPts c j fullShare (amaxF m) := by
  rw [payload_eq, kind_arecv]; rfl
theorem payload_loc0 (d : Dev nD) : (sched (F := F) m).payload (locCell c) 0 d = iprop(cPts c c (commF m c) ∗ xPts m c c) := by
  rw [payload_eq, kind_loc]; rfl
theorem payload_loc1 (d : Dev nD) : (sched (F := F) m).payload (locCell c) 1 d = iprop(oPts c (outF m c) ∗ aPts c (outF m c)) := by
  rw [payload_eq, kind_loc]; rfl

theorem expect_bar : (sched (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin]; rfl

/-- A cell whose round has the one duty `0`: its amount is the round's, its payload what the wait brings. -/
theorem expect_one {g : GSem nD τ sig} {r : ℕ} (h : (sched (F := F) m).duties g r = {0}) :
    (sched (F := F) m).expect g r = (sched (F := F) m).amount g r 0 := by
  unfold Schedule.expect Schedule.amountOf; rw [h, Finset.sum_singleton]
theorem rest_one {g : GSem nD τ sig} {r : ℕ} (h : (sched (F := F) m).duties g r = {0}) :
    bigSep ((sched (F := F) m).duties g r \ ∅) (fun d => (sched (F := F) m).payload g r d) = (sched (F := F) m).payload g r 0 := by
  rw [Finset.sdiff_empty, h, bigSep_singleton]

/-- The seven other devices, one by one. -/
theorem bigSep_peers (Φ : Dev nD → sProp 𝕄) : bigSep (Finset.univ.erase c) Φ
    = iprop(Φ (peer c 1) ∗ Φ (peer c 2) ∗ Φ (peer c 3) ∗ Φ (peer c 4) ∗ Φ (peer c 5) ∗ Φ (peer c 6) ∗ Φ (peer c 7)) :=
  bigSep_eq_bigSepL_of_eq [peer c 1, peer c 2, peer c 3, peer c 4, peer c 5, peer c 6, peer c 7]
    (by revert c; decide) (by revert c; decide) Φ

theorem rest_bar : bigSep ((sched (F := F) m).duties (barCell c) 0 \ ∅) (fun d => (sched (F := F) m).payload (barCell c) 0 d)
    = bigSep (Finset.univ.erase c) fun p => barPay c p := by
  rw [Finset.sdiff_empty, duties_bar]; exact bigSep_congr fun d _ => payload_bar m c d

end Sched

/-! ## What each core owes; the levels -/

/-- The barrier units still owed from peer `n` on, the landing blocks', the rows of maxima's. -/
def owB (c : Dev nD) (n : ℕ) : CellTallies nD τ sig Unit := ∑ d ∈ Finset.Ico n 8, tallyAt (barCell (peer c d)) () 1
def owR (c : Dev nD) (n : ℕ) : CellTallies nD τ sig Unit := ∑ d ∈ Finset.Ico n 8, tallyAt (recvCell (peer c d) c) () N1
def owA (c : Dev nD) (n : ℕ) : CellTallies nD τ sig Unit := ∑ d ∈ Finset.Ico n 8, tallyAt (arecvCell (peer c d) c) () N2

def O₀ (c : Dev nD) : CellTallies nD τ sig Unit := owA c 1 + owR c 1 + owB c 1

theorem Ico_peel (n : ℕ) (h : n < 8) : Finset.Ico n 8 = insert n (Finset.Ico (n + 1) 8) := by
  ext x; rw [Finset.mem_insert, Finset.mem_Ico, Finset.mem_Ico]; omega
theorem sum_peel {M : Type} [AddCommMonoid M] (f : ℕ → M) (n : ℕ) (h : n < 8) :
    ∑ d ∈ Finset.Ico n 8, f d = ∑ d ∈ Finset.Ico (n + 1) 8, f d + f n := by
  rw [Ico_peel n h, Finset.sum_insert (by rw [Finset.mem_Ico]; omega), add_comm]

theorem owB_step (c : Dev nD) (n : ℕ) (h : n < 8) : owB c n = owB c (n + 1) + tallyAt (barCell (peer c n)) () 1 := by
  exact sum_peel _ n h
theorem owR_step (c : Dev nD) (n : ℕ) (h : n < 8) : owR c n = owR c (n + 1) + tallyAt (recvCell (peer c n) c) () N1 := by
  exact sum_peel _ n h
theorem owA_step (c : Dev nD) (n : ℕ) (h : n < 8) : owA c n = owA c (n + 1) + tallyAt (arecvCell (peer c n) c) () N2 := by
  exact sum_peel _ n h
theorem owB_end (c : Dev nD) : owB c 8 = 0 := rfl
theorem owR_end (c : Dev nD) : owR c 8 = 0 := rfl
theorem owA_end (c : Dev nD) : owA c 8 = 0 := rfl

def L (g : GSem nD τ sig) : Finset Unit := if g.1.2 = .tc then {()} else ∅
/-- Barrier cells at 1, landing blocks' at 2, maxima's at 3, everything else at 0. -/
def lv (g : GSem nD τ sig) (_ : Unit) : ℕ := match kindOf g.2 with
  | .bar => 1
  | .recv _ => 2
  | .arecv _ => 3
  | _ => 0

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {s : Finset ℕ} {f : ℕ → GSem nD τ sig} {N : ℕ} {g : GSem nD τ sig} {u : Unit}
    (h : 0 < (∑ d ∈ s, tallyAt (f d) () N : CellTallies nD τ sig Unit) g u) : ∃ d ∈ s, g = f d := by
  rw [Finset.sum_apply, Finsupp.finset_sum_apply] at h
  obtain ⟨d, hd, hp⟩ := Finset.exists_ne_zero_of_sum_ne_zero (Nat.pos_iff_ne_zero.mp h)
  refine ⟨d, hd, ?_⟩
  rw [tallyAt_apply] at hp
  by_contra hn
  rw [if_neg (fun h' => hn h'.1)] at hp
  exact hp rfl

/-- A wait at a level below everything owed is allowed. -/
theorem mayWait_cut (c : Dev nD) (sm : SemLoc sig) (cut : ℕ) (O : CellTallies nD τ sig Unit)
    (hsm : lv ((c : Thread nD τ), sm) () ≤ cut)
    (hO : ∀ g u, 0 < O g u → g.1.2 = .tc ∧ cut < lv g ()) :
    (levAts L lv : sProp 𝕄) ⊢ MayWait (c : Thread nD τ) sm () O :=
  MayOwe.of_cut (L := L) (lev := lv) cut (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem lv_bar (c : Dev nD) : lv (barCell c) () = 1 := by unfold lv; rw [kind_bar]
theorem lv_recv (c : Dev nD) (j : Fin 8) : lv (recvCell c j) () = 2 := by unfold lv; rw [kind_recv]
theorem lv_arecv (c : Dev nD) (j : Fin 8) : lv (arecvCell c j) () = 3 := by unfold lv; rw [kind_arecv]

theorem owA_lv {c : Dev nD} {n : ℕ} (g : GSem nD τ sig) (u : Unit) (h : 0 < owA c n g u) : g.1.2 = .tc ∧ 2 < lv g () := by
  obtain ⟨d, _, rfl⟩ := sum_tally_pos h
  exact ⟨rfl, by rw [lv_arecv]; decide⟩
theorem owR_lv {c : Dev nD} {n : ℕ} (g : GSem nD τ sig) (u : Unit) (h : 0 < owR c n g u) : g.1.2 = .tc ∧ 1 < lv g () := by
  obtain ⟨d, _, rfl⟩ := sum_tally_pos h
  exact ⟨rfl, by rw [lv_recv]; decide⟩
theorem owB_lv {c : Dev nD} {n : ℕ} (g : GSem nD τ sig) (u : Unit) (h : 0 < owB c n g u) : g.1.2 = .tc ∧ 0 < lv g () := by
  obtain ⟨d, _, rfl⟩ := sum_tally_pos h
  exact ⟨rfl, by rw [lv_bar]; decide⟩
theorem owAR_lv {c : Dev nD} {n n' : ℕ} (g : GSem nD τ sig) (u : Unit) (h : 0 < (owA c n + owR c n') g u) : g.1.2 = .tc ∧ 1 < lv g () := by
  rw [Pi.add_apply, Finsupp.add_apply] at h
  rcases Nat.lt_or_ge 0 (owA c n g u) with h1 | h1
  · exact ⟨(owA_lv g u h1).1, by have := (owA_lv g u h1).2; omega⟩
  · exact owR_lv (n := n') g u (by rw [Nat.le_zero.mp h1, Nat.zero_add] at h; exact h)
theorem O₀_lv {c : Dev nD} (g : GSem nD τ sig) (u : Unit) (h : 0 < O₀ c g u) : g.1.2 = .tc ∧ 0 < lv g () := by
  unfold O₀ at h
  rw [Pi.add_apply, Finsupp.add_apply] at h
  rcases Nat.lt_or_ge 0 ((owA c 1 + owR c 1) g u) with h1 | h1
  · exact ⟨(owAR_lv g u h1).1, by have := (owAR_lv g u h1).2; omega⟩
  · exact owB_lv (n := 1) g u (by rw [Nat.le_zero.mp h1, Nat.zero_add] at h; exact h)

end Cert.KernelIdeal.A2A

end
-- ==== Proof.Steps.lean ====
/- One lemma for each kind of step the kernel's body takes: signals, sends, local copies, waits; and the printed names of its semaphores and blocks. -/
module

public import proofs.«01_k».proof.Proof.Common
public import Idealize.ShloMosaic.Lib.Pipeline.ValueKit

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The records every core keeps: each cell's invariant, its first round, the levels -/

def recs (K : Dev nD × Fin 34 → ℕ) : sProp 𝕄 :=
  iprop((bigSep Finset.univ fun ck : Dev nD × Fin 34 => cellInv ER (sched m) (K ck) (kcell ck))
    ∗ (bigSep Finset.univ fun ck : Dev nD × Fin 34 => reached ER (kcell ck) 0) ∗ levAts L lv)

instance recs_persistent (K : Dev nD × Fin 34 → ℕ) : BI.Persistent (recs m K) := by unfold recs; infer_instance

theorem recs_inv (K : Dev nD × Fin 34 → ℕ) (c : Dev nD) (k : Fin 34) (g : GSem nD τ sig) (h : kcell (c, k) = g) :
    recs m K ⊢ cellInv ER (sched m) (K (c, k)) g := by
  subst h; unfold recs; iintro ⟨H, -, -⟩; iapply (show (bigSep Finset.univ fun ck : Dev nD × Fin 34 => cellInv ER (sched m) (K ck) (kcell ck)) ⊢ cellInv ER (sched m) (K (c, k)) (kcell (c, k)) from bigSep_elim (Finset.mem_univ (c, k))); iexact H
theorem recs_reached (K : Dev nD × Fin 34 → ℕ) (c : Dev nD) (k : Fin 34) (g : GSem nD τ sig) (h : kcell (c, k) = g) :
    recs m K ⊢ reached ER g 0 := by
  subst h; unfold recs; iintro ⟨-, H, -⟩; iapply (show (bigSep Finset.univ fun ck : Dev nD × Fin 34 => (reached ER (kcell ck) 0 : sProp 𝕄)) ⊢ reached ER (kcell (c, k)) 0 from bigSep_elim (Finset.mem_univ (c, k))); iexact H
theorem recs_lev (K : Dev nD × Fin 34 → ℕ) : recs m K ⊢ levAts L lv := by
  unfold recs; iintro ⟨-, -, H⟩; iexact H

/-! ## Contents of the transfers -/

omit [FloatOps F] in
theorem xBuf_at {c c' : Dev nD} (h : c = c') (i j : S4096x512.Idx) (hij : i = j) :
    (xBuf m c i : Elt F .f32) = xBuf m c' j := by subst h; subst hij; rfl

theorem peer_ne (c : Dev nD) (d : ℕ) (h1 : 1 ≤ d) (h2 : d < 8) : c ≠ peer c d := by
  intro h
  have := congrArg Fin.val h
  have hc : c.val < 8 := c.isLt
  simp only [peer] at this; omega

omit [FloatOps F] in
/-- Block `p` of device `c`'s operand, written to block `c` of device `p`'s landing buffer, is what is due there. -/
theorem land_x (c p : Dev nD) (fd : (cc0_scratch0 : Ref sig .tc).ty.Contents (Elt F)) :
    ∀ i ∈ (cB c).view.set, (cB c).view.write (Elt F) fd ((xB p).view.read (Elt F) (xBuf m c)) Finset.univ i = commF m p i := by
  intro i hi
  obtain ⟨j, -, rfl⟩ := Finset.mem_map.mp hi
  rw [View.write_emb_of_mem _ _ (Finset.mem_univ j)]
  have hj : (j 0).val < 512 := (j 0).isLt
  have e0 : ((cB c).view.emb j 0).val = 512 * c.val + (j 0).val :=
    ValueKit.view_emb_slice_whole_unit_val cc0_scratch0 ![512 * c.val, 0] S512x512.size (inbRow c) j 0
  have e1 : ((cB c).view.emb j 1).val = 0 + (j 1).val := ValueKit.view_emb_slice_whole_unit_val cc0_scratch0 ![512 * c.val, 0] S512x512.size (inbRow c) j 1
  have f0 : ((xB p).view.emb j 0).val = 512 * p.val + (j 0).val := ValueKit.view_emb_slice_whole_unit_val main_arg0 ![512 * p.val, 0] S512x512.size (inbRow p) j 0
  have f1 : ((xB p).view.emb j 1).val = 0 + (j 1).val := ValueKit.view_emb_slice_whole_unit_val main_arg0 ![512 * p.val, 0] S512x512.size (inbRow p) j 1
  show (xBuf m c ((xB p).view.emb j) : Elt F .f32) = _
  unfold commF
  refine xBuf_at m (Fin.ext ?_) _ _ (funext fun a => ?_)
  · show c.val = ((cB c).view.emb j 0).val / 512; omega
  · revert a
    refine Fin.forall_fin_two.mpr ⟨Fin.ext ?_, Fin.ext ?_⟩
    · show ((xB p).view.emb j 0).val = 512 * p.val + ((cB c).view.emb j 0).val % 512; omega
    · show ((xB p).view.emb j 1).val = ((cB c).view.emb j 1).val; omega

omit [FloatOps F] in
/-- A view's elements written with what the view reads of `f` hold `f`. -/
theorem write_read {κ : Idealize.ShloMosaic.Kind} {sp : Space} {s : Shape} {e : EltTy} (v : View sig κ sp s e) (fd f : v.ty.Contents (Elt F)) :
    ∀ i ∈ v.set, v.write (Elt F) fd (v.read (Elt F) f) Finset.univ i = f i := by
  intro i hi
  obtain ⟨j, -, rfl⟩ := Finset.mem_map.mp hi
  rw [View.write_emb_of_mem _ _ (Finset.mem_univ j), View.read_apply, cast_cast, cast_eq]

omit [FloatOps F] in
theorem hN1 (c : Fin 8) {sm : DmaSem sig} : (cB c).view.amount (.dma sm) = N1 := rfl
omit [FloatOps F] in
theorem hN2 (c : Fin 8) {sm : DmaSem sig} : (mB c).view.amount (.dma sm) = N2 := rfl

/-! ## The steps -/

section Steps

variable (K : Dev nD × Fin 34 → ℕ)

/-- A barrier signal to the device `d` places on. -/
theorem wp_sig (c n : Dev nD) {α : Type} {Q : α → sProp 𝕄} {k : PUnit → Prog (TpuEff nD τ sig (Elt F) Λ₀ .tc) α} (d : ℕ) (h1 : 1 ≤ d) (h2 : d < 8) (hn : n = peer c d) (A : CellTallies nD τ sig Unit) (W : Waits sig Unit) :
    iprop(recs m K ∗ owes (c : Thread nD τ) (A + owB c d) W ∗ dutyTok ER (barCell (peer c d)) 0 c ∗ barPay (F := F) (peer c d) c)
      ⊢ iprop((owes (c : Thread nD τ) (A + owB c (d + 1)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS (1#32).toNat) k) Q) := by
  subst hn
  iintro ⟨#HR, HO, Ht, Hp⟩
  iapply (Rounds.wp_signal 𝒱₀ ER (sched m) (c : Thread nD τ) none (dst := (peer c d : Thread nD τ)) (κ := K (peer c d, 0)) (r := 0)
      (d := c) (by rw [duties_bar]; exact Finset.mem_erase.mpr ⟨peer_ne c d h1 h2, Finset.mem_univ _⟩)
      ((amount_bar m (peer c d) c).trans (by decide)) () (O₀ := A + owB c d) (A + owB c (d + 1)) ((congrArg (A + ·) (owB_step c _ h2)).trans (add_assoc _ _ _).symm))
  isplitr; · iapply (recs_inv m K (peer c d) 0 _ (kcell_bar _)); iexact HR
  isplitl [HO]; · iexact HO
  isplitl [Ht]; · iexact Ht
  isplitl [Hp]; · rw [payload_bar]; iexact Hp
  iapply (recs_reached m K (peer c d) 0 _ (kcell_bar _)); iexact HR

/-- The send of an operand block to the device `d` places on. -/
theorem wp_send_x (c n : Dev nD) {α : Type} {Q : α → sProp 𝕄} {k : PUnit → Prog (TpuEff nD τ sig (Elt F) Λ₀ .tc) α} (j : Fin 8) (d : ℕ) (hd : d = j.val + 1) (hj : j ≠ 7) (hn : n = peer c d)
    {src : Memref sig .tc .hbm S512x512 .f32} (hsE : src = xB (peer c d))
    {dst : Memref sig (Dev.tc n : Thread nD τ).2.kind .vmem S512x512 .f32} (hdE : dst = cB c)
    {sS sR : DmaSem sig} (hS : sS = sendS j) (hR : sR = recvS c)
    {hsc : dst.view.ref.isScScratch = false} {hsrc : src.view.WordExact} {hdst : dst.view.WordExact}
    {hsem : DmaTarget.Typed .hbm (.dma sR) (.remote (Dev.tc n : Thread nD τ) dst (.dma sS) hsc)}
    (A : CellTallies nD τ sig Unit) (W : Waits sig Unit) :
    iprop(recs m K ∗ xPts m c (peer c d) ∗ (∃ f, cPts (peer c d) c f) ∗ owes (c : Thread nD τ) (A + owR c d) W
        ∗ dutyTok ER (sendCell c j) 0 0 ∗ dutyTok ER (recvCell (peer c d) c) 0 0)
      ⊢ iprop(((cred (tallyAt (sendCell c j) () N1) ∗ owes (c : Thread nD τ) (A + owR c (d + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  have h7 : j.val + 1 < 8 := by
    have := j.isLt
    have : j.val ≠ 7 := fun h => hj (Fin.ext h)
    omega
  subst hd; subst hn; subst hsE; subst hdE; subst hS; subst hR
  iintro ⟨#HR, Hx, ⟨%fd, Hc⟩, HO, Ht1, Ht2⟩
  unfold xPts cPts
  iapply (Rounds.wp_send_pointsTo 𝒱₀ ER (sched m) (c : Thread nD τ) none (κ₁ := K (c, kSend j)) (κ₂ := K (peer c (j.val + 1), kRecv c))
    (r₁ := 0) (r₂ := 0) (d₁ := 0) (d₂ := 0) (fd := fd)
    (by rw [duties_send m c j hj]; exact Finset.mem_singleton_self _)
    (by rw [duties_recv m _ c (peer_ne c _ (by omega) h7)]; exact Finset.mem_singleton_self _)
    () () N1 (hN1 c) (amount_send m c j 0) (amount_recv m _ c 0) (O₀ := A + owR c (j.val + 1)) (A + owR c (j.val + 1 + 1)) ((congrArg (A + ·) (owR_step c _ h7)).trans (add_assoc _ _ _).symm) (W := W)
    (by rw [payload_send]; exact BI.Entails.refl _)
    (by rw [payload_recv]; unfold cPts; exact Entails.of_eq (pointsTo_congr (land_x m c (peer c (j.val + 1)) fd))))
  isplitr; · iapply (recs_inv m K c (kSend j) _ (kcell_send c j)); iexact HR
  isplitr; · iapply (recs_inv m K (peer c (j.val + 1)) (kRecv c) _ (kcell_recv _ c)); iexact HR
  isplitl [Hx]; · iexact Hx
  isplitl [Hc]; · iexact Hc
  isplitl [HO]; · iexact HO
  isplitl [Ht1]; · iexact Ht1
  isplitr; · iapply (recs_reached m K c (kSend j) _ (kcell_send c j)); iexact HR
  isplitl [Ht2]; · iexact Ht2
  iapply (recs_reached m K (peer c (j.val + 1)) (kRecv c) _ (kcell_recv _ c)); iexact HR

/-- The send of the core's own row of maxima to the device `d` places on. -/
theorem wp_send_m (c n : Dev nD) {α : Type} {Q : α → sProp 𝕄} {k : PUnit → Prog (TpuEff nD τ sig (Elt F) Λ₀ .tc) α} (j : Fin 8) (d : ℕ) (hd : d = j.val + 1) (hj : j ≠ 7) (hn : n = peer c d)
    {src : Memref sig .tc .vmem S1x128 .f32} (hsE : src = mB c)
    {dst : Memref sig (Dev.tc n : Thread nD τ).2.kind .vmem S1x128 .f32} (hdE : dst = mB c)
    {sS sR : DmaSem sig} (hS : sS = asendS j) (hR : sR = arecvS c)
    {hsc : dst.view.ref.isScScratch = false} {hsrc : src.view.WordExact} {hdst : dst.view.WordExact}
    {hsem : DmaTarget.Typed .vmem (.dma sR) (.remote (Dev.tc n : Thread nD τ) dst (.dma sS) hsc)}
    (W : Waits sig Unit) :
    iprop(recs m K ∗ mPts c c (Transfers.shareTok fullShare 8 j) (amaxF m) ∗ (∃ f, mPts (peer c d) c fullShare f)
        ∗ owes (c : Thread nD τ) (owA c d) W
        ∗ dutyTok ER (asendCell c j) 0 0 ∗ dutyTok ER (arecvCell (peer c d) c) 0 0)
      ⊢ iprop(((cred (tallyAt (asendCell c j) () N2) ∗ owes (c : Thread nD τ) (owA c (d + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  have h7 : j.val + 1 < 8 := by
    have := j.isLt
    have : j.val ≠ 7 := fun h => hj (Fin.ext h)
    omega
  subst hd; subst hn; subst hsE; subst hdE; subst hS; subst hR
  iintro ⟨#HR, Hx, ⟨%fd, Hc⟩, HO, Ht1, Ht2⟩
  unfold mPts
  iapply (Rounds.wp_send_pointsTo 𝒱₀ ER (sched m) (c : Thread nD τ) none (κ₁ := K (c, kASend j)) (κ₂ := K (peer c (j.val + 1), kARecv c))
    (r₁ := 0) (r₂ := 0) (d₁ := 0) (d₂ := 0) (fd := fd)
    (by rw [duties_asend m c j hj]; exact Finset.mem_singleton_self _)
    (by rw [duties_arecv m _ c (peer_ne c _ (by omega) h7)]; exact Finset.mem_singleton_self _)
    () () N2 (hN2 c) (amount_asend m c j 0) (amount_arecv m _ c 0) (O₀ := owA c (j.val + 1)) (owA c (j.val + 1 + 1)) (owA_step c _ h7) (W := W)
    (by rw [payload_asend]; exact BI.Entails.refl _)
    (by rw [payload_arecv]; unfold mPts; exact Entails.of_eq (pointsTo_congr (write_read (mB c).view fd (amaxF m)))))
  isplitr; · iapply (recs_inv m K c (kASend j) _ (kcell_asend c j)); iexact HR
  isplitr; · iapply (recs_inv m K (peer c (j.val + 1)) (kARecv c) _ (kcell_arecv _ c)); iexact HR
  isplitl [Hx]; · iexact Hx
  isplitl [Hc]; · iexact Hc
  isplitl [HO]; · iexact HO
  isplitl [Ht1]; · iexact Ht1
  isplitr; · iapply (recs_reached m K c (kASend j) _ (kcell_asend c j)); iexact HR
  isplitl [Ht2]; · iexact Ht2
  iapply (recs_reached m K (peer c (j.val + 1)) (kARecv c) _ (kcell_arecv _ c)); iexact HR

/-- The local copy of the core's own block. -/
theorem wp_local_x (c : Dev nD) {α : Type} {Q : α → sProp 𝕄} {k : PUnit → Prog (TpuEff nD τ sig (Elt F) Λ₀ .tc) α} {src : Memref sig .tc .hbm S512x512 .f32} (hsE : src = xB c)
    {dst : Memref sig (Dev.tc c : Thread nD τ).2.kind .vmem S512x512 .f32} (hdE : dst = cB c) {s : DmaSem sig} (hs : s = locS)
    {hsrc : src.view.WordExact} {hdst : dst.view.WordExact}
    {hsem : DmaTarget.Typed (nD := nD) .hbm (.dma s) (.here dst)} :
    iprop(recs m K ∗ xPts m c c ∗ (∃ f, cPts c c f) ∗ dutyTok ER (locCell c) 0 0)
      ⊢ iprop((cred (tallyAt (locCell c) () N1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  subst hsE; subst hdE; subst hs
  iintro ⟨#HR, Hx, ⟨%fd, Hc⟩, Ht⟩
  unfold xPts cPts
  iapply (Rounds.wp_copy_pointsTo 𝒱₀ ER (sched m) (c : Thread nD τ) none (κ := K (c, kLoc)) (r := 0) (d := 0) (fd := fd)
    (by rw [duties_loc m c 0 (by decide)]; exact Finset.mem_singleton_self _) () N1 (hN1 c) (amount_loc0 m c 0)
    (by rw [payload_loc0]; unfold cPts xPts; exact sep_mono_left (Entails.of_eq (pointsTo_congr (land_x m c c fd)))))
  isplitr; · iapply (recs_inv m K c kLoc _ (kcell_loc c)); iexact HR
  isplitl [Hx]; · iexact Hx
  isplitl [Hc]; · iexact Hc
  isplitl [Ht]; · iexact Ht
  iapply (recs_reached m K c kLoc _ (kcell_loc c)); iexact HR

/-- The local copy of the finished block to the result. -/
theorem wp_local_out (c : Dev nD) {α : Type} {Q : α → sProp 𝕄} {k : PUnit → Prog (TpuEff nD τ sig (Elt F) Λ₀ .tc) α} {s : DmaSem sig} (hs : s = locS) {hsrc : aM.view.WordExact} {hdst : oM.view.WordExact}
    {hsem : DmaTarget.Typed (nD := nD) (p := Proc.tc) .vmem (.dma s) (.here oM)} :
    iprop(recs m K ∗ aPts c (outF m c) ∗ (∃ f, oPts c f) ∗ dutyTok ER (locCell c) 1 0 ∗ reached ER (locCell c) 1)
      ⊢ iprop((cred (tallyAt (locCell c) () N3) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma aM (.here oM) (.dma s) hsrc hdst hsem) k) Q) := by
  subst hs
  iintro ⟨#HR, Hx, ⟨%fd, Hc⟩, Ht, Hr⟩
  unfold aPts oPts
  iapply (Rounds.wp_copy_pointsTo 𝒱₀ ER (sched m) (c : Thread nD τ) none (κ := K (c, kLoc)) (r := 1) (d := 0) (fd := fd)
    (by rw [duties_loc m c 1 (by decide)]; exact Finset.mem_singleton_self _) () N3 rfl (amount_loc1 m c 0)
    (by rw [payload_loc1]; unfold oPts aPts
        exact sep_mono_left (Entails.of_eq (pointsTo_congr (write_read oM.view fd (outF m c))))))
  isplitr; · iapply (recs_inv m K c kLoc _ (kcell_loc c)); iexact HR
  isplitl [Hx]; · iexact Hx
  isplitl [Hc]; · iexact Hc
  isplitl [Ht]; · iexact Ht
  iexact Hr

/-- A wait for the whole of a round with one duty: the round's payload comes back. -/
theorem wp_wait_one (c : Dev nD) {α : Type} {Q : α → sProp 𝕄} {k : PUnit → Prog (TpuEff nD τ sig (Elt F) Λ₀ .tc) α} (kk : Fin 34) (g : DmaSem sig) (hg : kcell (c, kk) = ((c : Thread nD τ), .dma g)) (R : ℕ)
    (hduty : (sched (F := F) m).duties ((c : Thread nD τ), .dma g) R = {0}) (N : ℕ)
    (hN : (sched (F := F) m).amount ((c : Thread nD τ), .dma g) R 0 = N)
    {sp sp' : Space} {s s' : Shape} {e e' : EltTy} {q : DmaSem sig} (hq : q = g) {κ' : Kind}
    {src : Memref sig .tc sp' s' e'} {dst : Memref sig κ' sp s e} {hsrc : src.view.WordExact} {hdst : dst.view.WordExact}
    (hc : dst.view.dmaCredit = N) (O : CellTallies nD τ sig Unit) (W : Waits sig Unit)
    (hmw : (levAts L lv : sProp 𝕄) ⊢ MayWait (c : Thread nD τ) (.dma g) () O) :
    iprop(recs m K ∗ cred (tallyAt ((c : Thread nD τ), .dma g) () N) ∗ owes (c : Thread nD τ) O W ∗ atPos ER ((c : Thread nD τ), .dma g) R ∅ 0)
      ⊢ iprop(((owes (c : Thread nD τ) O (insert (.dma g, ()) W) ∗ atPos ER ((c : Thread nD τ), .dma g) (R + 1) ∅ 0
              ∗ reached ER ((c : Thread nD τ), .dma g) (R + 1) ∗ (sched m).payload ((c : Thread nD τ), .dma g) R 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq; subst hc
  rw [← rest_one m hduty]
  iintro ⟨#HR, Hc, HO, Ha⟩
  iapply (Rounds.wp_wait_rest_token 𝒱₀ ER (sched m) (c : Thread nD τ) none (κ := K (c, kk))
      (wpE_waitDma2_eq 𝒱₀ (c : Thread nD τ) none Set.univ) (Set.mem_univ _) () (O := O) (W := W) (R := R) (m := 0) (T := ∅)
      (by rw [Nat.zero_add, expect_one m hduty, hN]))
  isplitr; · iapply (recs_inv m K c kk _ hg); iexact HR
  isplitl [Hc]; · iexact Hc
  isplitl [HO]; · iexact HO
  isplitr; · iapply hmw; iapply (recs_lev m K); iexact HR
  iexact Ha

/-- The wait for the seven barrier units: every peer's loan comes back. -/
theorem wp_wait_bar (c : Dev nD) {α : Type} {Q : α → sProp 𝕄} {k : PUnit → Prog (TpuEff nD τ sig (Elt F) Λ₀ .tc) α} (O : CellTallies nD τ sig Unit) (W : Waits sig Unit)
    (hmw : (levAts L lv : sProp 𝕄) ⊢ MayWait (c : Thread nD τ) (.reg barS) () O) :
    iprop(recs m K ∗ cred (tallyAt (barCell c) () 7) ∗ owes (c : Thread nD τ) O W ∗ atPos ER (barCell c) 0 ∅ 0)
      ⊢ iprop(((owes (c : Thread nD τ) O (insert (.reg barS, ()) W) ∗ atPos ER (barCell c) (0 + 1) ∅ 0
              ∗ bigSep (Finset.univ.erase c) fun p => barPay (F := F) c p)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toNat) k) Q) := by
  rw [← rest_bar m c]
  iintro ⟨#HR, Hc, HO, Ha⟩ Hk
  iapply (Rounds.wp_wait_rest_token 𝒱₀ ER (sched m) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [Hc HO Ha]
  · isplitr; · iapply (recs_inv m K c 0 _ (kcell_bar c)); iexact HR
    isplitl [Hc]; · iexact Hc
    isplitl [HO]; · iexact HO
    isplitr; · iapply hmw; iapply (recs_lev m K); iexact HR
    iexact Ha
  iintro ⟨HO, Ha, -, Hp⟩
  iapply Hk
  isplitl [HO]; · iexact HO
  isplitl [Ha]; · iexact Ha
  iexact Hp

/-- A cell past its last round gives its counter back at zero. -/
theorem close_cell (c : Dev nD) (kk : Fin 34) (g : GSem nD τ sig) (hg : kcell (c, kk) = g) (R : ℕ)
    (hR : ∀ r, R ≤ r → (sched (F := F) m).duties g r = ∅) :
    iprop(recs m K ∗ atPos ER g R ∅ 0) ⊢ |={Set.univ}=> semVal g 0 := by
  iintro ⟨#HR, Ha⟩
  iapply (Rounds.cell_close ER (sched m) (Set.mem_univ (K (c, kk))) (fun h => h) (R := R) hR)
  isplitr; · iapply (recs_inv m K c kk _ hg); iexact HR
  iexact Ha

end Steps

/-! ## The program's own spellings of the semaphores and blocks -/

theorem send_sem (j : Fin 8) (off : Fin 1 → ℕ) (h : off = ![j.val]) (inb) :
    ((cc0_scratch3.slice (Rect.unit (s := S8) off S1.size inb)).squeeze S_ squeezes_S1_S_).sem = sendS j := by
  subst h; revert inb; revert j; decide
theorem recv_sem (j : Fin 8) (off : Fin 1 → ℕ) (h : off = ![j.val]) (inb) :
    ((cc0_scratch4.slice (Rect.unit (s := S8) off S1.size inb)).squeeze S_ squeezes_S1_S_).sem = recvS j := by
  subst h; revert inb; revert j; decide
theorem asend_sem (j : Fin 8) (off : Fin 1 → ℕ) (h : off = ![j.val]) (inb) :
    ((cc0_scratch5.slice (Rect.unit (s := S8) off S1.size inb)).squeeze S_ squeezes_S1_S_).sem = asendS j := by
  subst h; revert inb; revert j; decide
theorem arecv_sem (j : Fin 8) (off : Fin 1 → ℕ) (h : off = ![j.val]) (inb) :
    ((cc0_scratch6.slice (Rect.unit (s := S8) off S1.size inb)).squeeze S_ squeezes_S1_S_).sem = arecvS j := by
  subst h; revert inb; revert j; decide
theorem loc_sem : (cc0_scratch7 : DmaSems sig S_).sem = locS := by decide

theorem x_blk (k : Fin 8) (off : Fin 2 → ℕ) (h : off = ![512 * k.val, 0]) (inb) :
    xM.slice (Rect.unit (s := S4096x512) off S512x512.size inb) (fun _ => rfl) = xB k := by subst h; rfl
theorem c_blk (k : Fin 8) (off : Fin 2 → ℕ) (h : off = ![512 * k.val, 0]) (inb) :
    cM.slice (Rect.unit (s := S4096x512) off S512x512.size inb) (fun _ => rfl) = cB k := by subst h; rfl
theorem m_blk (k : Fin 8) (off : Fin 2 → ℕ) (h : off = ![k.val, 0]) (inb) :
    mM.slice (Rect.unit (s := S8x128) off S1x128.size inb) (fun _ => rfl) = mB k := by subst h; rfl

end Cert.KernelIdeal.A2A

end
-- ==== Proof.Body1.lean ====
/- What a core holds before, between and after the grid points, and the exchange at the first point: barrier, seven sends, the local copy. -/
module

public import proofs.«01_k».proof.Proof.Steps

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Seven of a kind: one for each other device, `r + 1` places on -/

def seven (Φ : Fin 7 → sProp 𝕄) : sProp 𝕄 := iprop(Φ 0 ∗ Φ 1 ∗ Φ 2 ∗ Φ 3 ∗ Φ 4 ∗ Φ 5 ∗ Φ 6)

omit [FloatOps F] in
theorem seven_eq (Φ : Fin 7 → sProp 𝕄) : bigSep Finset.univ Φ = seven Φ :=
  bigSep_univ_eq_bigSepL [0, 1, 2, 3, 4, 5, 6] (by decide) (by decide) Φ

/-- Send slot `r` of the eight. -/
abbrev slot (r : Fin 7) : Fin 8 := r.castSucc
/-- The peer slot `r` sends to. -/
abbrev pr (c : Dev nD) (r : Fin 7) : Dev nD := peer c (r.val + 1)

theorem peers_eq (c : Dev nD) (Φ : Dev nD → sProp 𝕄) : bigSep (Finset.univ.erase c) Φ = seven fun r => Φ (pr c r) := bigSep_peers c Φ

/-! ## What a core holds -/

/-- For the signal to one peer: the duty's token, and what is lent. -/
def sigKit (c : Dev nD) (r : Fin 7) : sProp 𝕄 := iprop(dutyTok ER (barCell (pr c r)) 0 c ∗ barPay (F := F) (pr c r) c)
/-- For the send of an operand block to one peer. -/
def sendKit (c : Dev nD) (r : Fin 7) : sProp 𝕄 :=
  iprop(xPts m c (pr c r) ∗ dutyTok ER (sendCell c (slot r)) 0 0 ∗ dutyTok ER (recvCell (pr c r) c) 0 0)
/-- For the send of the row of maxima to one peer. -/
def maxKit (c : Dev nD) (r : Fin 7) : sProp 𝕄 :=
  iprop(dutyTok ER (asendCell c (slot r)) 0 0 ∗ dutyTok ER (arecvCell (pr c r) c) 0 0 ∗ atPos ER (asendCell c (slot r)) 0 ∅ 0)
/-- For the wait for one peer's row of maxima. -/
def maxWait (c : Dev nD) (r : Fin 7) : sProp 𝕄 :=
  iprop(cred (tallyAt (arecvCell c (pr c r)) () N2) ∗ atPos ER (arecvCell c (pr c r)) 0 ∅ 0)
/-- For the wait for one peer's operand block. -/
def recvWait (c k : Dev nD) : sProp 𝕄 :=
  iprop(cred (tallyAt (recvCell c k) () N1) ∗ atPos ER (recvCell c k) 0 ∅ 0)

/-- Block `k` of the landing buffer before point `t`: the core's own, landed and waited for, or still to wait for. -/
def recvSt (c : Dev nD) (t : ℕ) (k : Dev nD) : sProp 𝕄 :=
  if k = c then iprop(cPts c k (commF m c) ∗ atPos ER (recvCell c k) 0 ∅ 0)
  else if 4 * k.val < t then iprop(cPts c k (commF m c) ∗ atPos ER (recvCell c k) 1 ∅ 0)
  else recvWait c k

/-- The seven operand sends under way. -/
def sent (c : Dev nD) : sProp 𝕄 :=
  seven fun r => iprop(cred (tallyAt (sendCell c (slot r)) () N1) ∗ atPos ER (sendCell c (slot r)) 0 ∅ 0)
/-- The peers' rows `c` of their tables of maxima, lent. -/
def lentRows (c : Dev nD) : sProp 𝕄 := seven fun r => iprop(∃ f, mPts (F := F) (pr c r) c fullShare f)
/-- The positions at the cells no one ever raises. -/
def idle (c : Dev nD) : sProp 𝕄 :=
  iprop(atPos ER (sendCell c 7) 0 ∅ 0 ∗ atPos ER (asendCell c 7) 0 ∅ 0 ∗ atPos ER (arecvCell c c) 0 ∅ 0)

/-- What waits for the last point. -/
def rest (c : Dev nD) : sProp 𝕄 :=
  iprop(atPos ER (barCell c) 1 ∅ 0 ∗ sent c ∗ lentRows c ∗ seven (maxKit c) ∗ seven (maxWait c) ∗ idle c
    ∗ (∃ f, mPts (F := F) c c fullShare f)
    ∗ atPos ER (locCell c) 1 ∅ 0 ∗ reached ER (locCell c) 1 ∗ dutyTok ER (locCell c) 1 0)

/-- What a core holds between two points, apart from the records. -/
def midR (c : Dev nD) (t : ℕ) : sProp 𝕄 :=
  iprop(xPts m c c ∗ (∃ f, oPts c f) ∗ (∃ f, ⌜AccOK m c t f⌝ ∗ aPts c f)
    ∗ (bigSep Finset.univ fun k => recvSt m c t k) ∗ rest c)

/-- What a core holds before the first point, apart from the records. -/
def startR (c : Dev nD) : sProp 𝕄 :=
  iprop(xPts m c c ∗ (∃ f, oPts c f) ∗ (∃ f, aPts c f) ∗ (∃ f, cPts (F := F) c c f) ∗ (∃ f, mPts (F := F) c c fullShare f)
    ∗ seven (sigKit (F := F) c) ∗ seven (sendKit m c) ∗ seven (maxKit c) ∗ seven (maxWait c)
    ∗ (seven fun r => recvWait c (pr c r)) ∗ (seven fun r => atPos ER (sendCell c (slot r)) 0 ∅ 0)
    ∗ atPos ER (recvCell c c) 0 ∅ 0 ∗ idle c
    ∗ cred (tallyAt (barCell c) () 7) ∗ atPos ER (barCell c) 0 ∅ 0
    ∗ atPos ER (locCell c) 0 ∅ 0 ∗ dutyTok ER (locCell c) 0 0 ∗ dutyTok ER (locCell c) 1 0)

/-! ## The first point's exchange -/

theorem recv0 (c : Dev nD) : iprop((cPts c c (commF m c) ∗ atPos ER (recvCell c c) 0 ∅ 0) ∗ seven fun r => recvWait (F := F) c (pr c r))
    ⊢ bigSep Finset.univ fun k => recvSt m c 0 k := by
  have e : (bigSep Finset.univ fun k => recvSt m c 0 k) = iprop(recvSt m c 0 c ∗ bigSep (Finset.univ.erase c) fun k => recvSt m c 0 k) :=
    bigSep_univ_at _ c
  rw [e, ← peers_eq c (fun k => recvWait (F := F) c k)]
  refine sep_mono (Entails.of_eq ?_) (Entails.of_eq (bigSep_congr fun k hk => ?_))
  · unfold recvSt; rw [if_pos rfl]
  · unfold recvSt; rw [if_neg (Finset.ne_of_mem_erase hk), if_neg (Nat.not_lt_zero _)]

/-- The core's own barrier may be waited for while it owes only landings. -/
theorem mw_bar (c : Dev nD) : (levAts L lv : sProp 𝕄) ⊢ MayWait (c : Thread nD τ) (.reg barS) () (owA c 1 + owR c 1) :=
  mayWait_cut c _ 1 _ (by rw [lv_bar]) (fun g u h => owAR_lv g u h)
theorem lv_loc (c : Dev nD) : lv (locCell c) () = 0 := by unfold lv; rw [kind_loc]
theorem mw_loc0 (c : Dev nD) : (levAts L lv : sProp 𝕄) ⊢ MayWait (c : Thread nD τ) (.dma locS) () (owA c 1) :=
  mayWait_cut c _ 2 _ (by rw [lv_loc]; decide) (fun g u h => owA_lv g u h)
theorem mw_recv (c k : Dev nD) : (levAts L lv : sProp 𝕄) ⊢ MayWait (c : Thread nD τ) (.dma (recvS k)) () (owA c 1) :=
  mayWait_cut c _ 2 _ (by rw [lv_recv]) (fun g u h => owA_lv g u h)
theorem mw_zero (c : Dev nD) (sm : SemLoc sig) : (levAts L lv : sProp 𝕄) ⊢ MayWait (c : Thread nD τ) sm () 0 := by
  rw [MayWait_zero]; iintro -; iempintro

section Seg1
variable (K : Dev nD × Fin 34 → ℕ)
variable (t : Fin cfg0.N) (a3 : Memref sig .tc .vmem S512x2048 .f32) (h3 : a3.IsWhole)

set_option maxHeartbeats 4000000 in
/-- The barrier, the seven sends and the local copy of the core's own block, up to its wait. -/
theorem seg1 (c : Dev nD) (k0_h1 : k0_cond1 (grid0.coords t) = 1#1) (v2 : BitVec 32) (W : Waits sig Unit)
    {α : Type} {Q : α → sProp 𝕄} {k : PUnit → Prog (TpuEff nD τ sig (Elt F) Λ₀ .tc) α}
    {sp sp' : Space} {s' : Shape} {e' : EltTy} {src : Memref sig .tc sp' s' e'} {dst : Memref sig .tc .vmem S512x512 .f32} (hdst : dst = cB c)
    {hw1 : src.view.WordExact} {hw2 : dst.view.WordExact} :
    iprop(recs m K ∗ owes (c : Thread nD τ) (O₀ c) W ∗ startR m c)
      ⊢ iprop((((∃ W', owes (c : Thread nD τ) (owA c 1) W') ∗ midR m c 0)
            -∗ wp frame (wpE (defs₀ (F := F)) 𝒱₀ (c : Thread nD τ) none) Set.univ (k ⟨⟩) Q)
          -∗ wp frame (wpE (defs₀ (F := F)) 𝒱₀ (c : Thread nD τ) none) Set.univ
    (do
      let v31 : Sems sig S_ ← k0_part1 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1
      let v84 : BitVec 32 ← k0_part2 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1 v31
      k0_part3 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1 v84
      k0_part4 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1
      Prog.op (.waitDma2 cc0_scratch7.sem src dst hw1 hw2) k) Q) := by
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret]
  unfold startR seven O₀ sendKit
  iintro ⟨#HR, HO, Hx, Ho, ⟨%fa, Ha⟩, Hcc, Hmm, ⟨S0, S1, S2, S3, S4, S5, S6⟩, ⟨K0, K1, K2, K3, K4, K5, K6⟩, HmK, HmW, HrW,
    ⟨P0, P1, P2, P3, P4, P5, P6⟩, Hcp, Hidle, HcB, HaB, HaL, HtL0, HtL1⟩ Hk
  iapply (wp_sig m K c _ 1 (by decide) (by decide) (dev_eq_peer _ (k0_dev1_eq c)) _ _) $$ [HO S0]
  · isplitr; · iexact HR
    isplitl [HO]; · iexact HO
    unfold sigKit; iexact S0
  iintro HO
  iapply (wp_sig m K c _ 2 (by decide) (by decide) (dev_eq_peer _ (k0_dev2_eq c)) _ _) $$ [HO S1]
  · isplitr; · iexact HR
    isplitl [HO]; · iexact HO
    unfold sigKit; iexact S1
  iintro HO
  iapply (wp_sig m K c _ 3 (by decide) (by decide) (dev_eq_peer _ (k0_dev3_eq c)) _ _) $$ [HO S2]
  · isplitr; · iexact HR
    isplitl [HO]; · iexact HO
    unfold sigKit; iexact S2
  iintro HO
  iapply (wp_sig m K c _ 4 (by decide) (by decide) (dev_eq_peer _ (k0_dev4_eq c)) _ _) $$ [HO S3]
  · isplitr; · iexact HR
    isplitl [HO]; · iexact HO
    unfold sigKit; iexact S3
  iintro HO
  iapply (wp_sig m K c _ 5 (by decide) (by decide) (dev_eq_peer _ (k0_dev5_eq c)) _ _) $$ [HO S4]
  · isplitr; · iexact HR
    isplitl [HO]; · iexact HO
    unfold sigKit; iexact S4
  iintro HO
  iapply (wp_sig m K c _ 6 (by decide) (by decide) (dev_eq_peer _ (k0_dev6_eq c)) _ _) $$ [HO S5]
  · isplitr; · iexact HR
    isplitl [HO]; · iexact HO
    unfold sigKit; iexact S5
  iintro HO
  iapply (wp_sig m K c _ 7 (by decide) (by decide) (dev_eq_peer _ (k0_dev7_eq c)) _ _) $$ [HO S6]
  · isplitr; · iexact HR
    isplitl [HO]; · iexact HO
    unfold sigKit; iexact S6
  iintro HO
  rw [show owB c (7 + 1) = 0 from rfl, add_zero]
  iapply (wp_wait_bar m K c _ _ (mw_bar c)) $$ [HO HcB HaB]
  · isplitr; · iexact HR
    isplitl [HcB]; · iexact HcB
    isplitl [HO]; · iexact HO
    iexact HaB
  iintro ⟨HO, HaB, HB⟩
  ihave HB' := (Entails.of_eq (peers_eq c fun p => barPay (F := F) c p)) $$ HB
  unfold seven barPay
  icases HB' with ⟨B0, B1, B2, B3, B4, B5, B6⟩
  icases K0 with ⟨Kx, Kt1, Kt2⟩
  icases B0 with ⟨Bc, Bm0⟩
  iapply (wp_send_x m K c _ 0 1 rfl (by decide) (dev_eq_peer _ (k0_dev8_eq c)) (x_blk _ _ (k0_off3_eq c 0) _) (c_blk _ _ (k0_off2_eq c) _)
      (send_sem 0 _ rfl _) (recv_sem c _ (k0_off1_eq c) _) (owA c 1) _) $$ [HO Kx Kt1 Kt2 Bc]
  · isplitr; · iexact HR
    isplitl [Kx]; · iexact Kx
    isplitl [Bc]; · iexact Bc
    isplitl [HO]; · iexact HO
    isplitl [Kt1]; · iexact Kt1
    iexact Kt2
  iintro ⟨C0, HO⟩
  icases K1 with ⟨Kx, Kt1, Kt2⟩
  icases B1 with ⟨Bc, Bm1⟩
  iapply (wp_send_x m K c _ 1 2 rfl (by decide) (dev_eq_peer _ (k0_dev9_eq c)) (x_blk _ _ (k0_off3_eq c 1) _) (c_blk _ _ (k0_off2_eq c) _)
      (send_sem 1 _ rfl _) (recv_sem c _ (k0_off1_eq c) _) (owA c 1) _) $$ [HO Kx Kt1 Kt2 Bc]
  · isplitr; · iexact HR
    isplitl [Kx]; · iexact Kx
    isplitl [Bc]; · iexact Bc
    isplitl [HO]; · iexact HO
    isplitl [Kt1]; · iexact Kt1
    iexact Kt2
  iintro ⟨C1, HO⟩
  icases K2 with ⟨Kx, Kt1, Kt2⟩
  icases B2 with ⟨Bc, Bm2⟩
  iapply (wp_send_x m K c _ 2 3 rfl (by decide) (dev_eq_peer _ (k0_dev10_eq c)) (x_blk _ _ (k0_off3_eq c 2) _) (c_blk _ _ (k0_off2_eq c) _)
      (send_sem 2 _ rfl _) (recv_sem c _ (k0_off1_eq c) _) (owA c 1) _) $$ [HO Kx Kt1 Kt2 Bc]
  · isplitr; · iexact HR
    isplitl [Kx]; · iexact Kx
    isplitl [Bc]; · iexact Bc
    isplitl [HO]; · iexact HO
    isplitl [Kt1]; · iexact Kt1
    iexact Kt2
  iintro ⟨C2, HO⟩
  icases K3 with ⟨Kx, Kt1, Kt2⟩
  icases B3 with ⟨Bc, Bm3⟩
  iapply (wp_send_x m K c _ 3 4 rfl (by decide) (dev_eq_peer _ (k0_dev11_eq c)) (x_blk _ _ (k0_off3_eq c 3) _) (c_blk _ _ (k0_off2_eq c) _)
      (send_sem 3 _ rfl _) (recv_sem c _ (k0_off1_eq c) _) (owA c 1) _) $$ [HO Kx Kt1 Kt2 Bc]
  · isplitr; · iexact HR
    isplitl [Kx]; · iexact Kx
    isplitl [Bc]; · iexact Bc
    isplitl [HO]; · iexact HO
    isplitl [Kt1]; · iexact Kt1
    iexact Kt2
  iintro ⟨C3, HO⟩
  icases K4 with ⟨Kx, Kt1, Kt2⟩
  icases B4 with ⟨Bc, Bm4⟩
  iapply (wp_send_x m K c _ 4 5 rfl (by decide) (dev_eq_peer _ (k0_dev12_eq c)) (x_blk _ _ (k0_off3_eq c 4) _) (c_blk _ _ (k0_off2_eq c) _)
      (send_sem 4 _ rfl _) (recv_sem c _ (k0_off1_eq c) _) (owA c 1) _) $$ [HO Kx Kt1 Kt2 Bc]
  · isplitr; · iexact HR
    isplitl [Kx]; · iexact Kx
    isplitl [Bc]; · iexact Bc
    isplitl [HO]; · iexact HO
    isplitl [Kt1]; · iexact Kt1
    iexact Kt2
  iintro ⟨C4, HO⟩
  icases K5 with ⟨Kx, Kt1, Kt2⟩
  icases B5 with ⟨Bc, Bm5⟩
  iapply (wp_send_x m K c _ 5 6 rfl (by decide) (dev_eq_peer _ (k0_dev13_eq c)) (x_blk _ _ (k0_off3_eq c 5) _) (c_blk _ _ (k0_off2_eq c) _)
      (send_sem 5 _ rfl _) (recv_sem c _ (k0_off1_eq c) _) (owA c 1) _) $$ [HO Kx Kt1 Kt2 Bc]
  · isplitr; · iexact HR
    isplitl [Kx]; · iexact Kx
    isplitl [Bc]; · iexact Bc
    isplitl [HO]; · iexact HO
    isplitl [Kt1]; · iexact Kt1
    iexact Kt2
  iintro ⟨C5, HO⟩
  icases K6 with ⟨Kx, Kt1, Kt2⟩
  icases B6 with ⟨Bc, Bm6⟩
  iapply (wp_send_x m K c _ 6 7 rfl (by decide) (dev_eq_peer _ (k0_dev14_eq c)) (x_blk _ _ (k0_off3_eq c 6) _) (c_blk _ _ (k0_off2_eq c) _)
      (send_sem 6 _ rfl _) (recv_sem c _ (k0_off1_eq c) _) (owA c 1) _) $$ [HO Kx Kt1 Kt2 Bc]
  · isplitr; · iexact HR
    isplitl [Kx]; · iexact Kx
    isplitl [Bc]; · iexact Bc
    isplitl [HO]; · iexact HO
    isplitl [Kt1]; · iexact Kt1
    iexact Kt2
  iintro ⟨C6, HO⟩
  rw [show owR c (7 + 1) = 0 from rfl, add_zero]
  iapply (wp_local_x m K c (x_blk _ _ (k0_off2_eq c) _) (c_blk _ _ (k0_off2_eq c) _) loc_sem) $$ [Hx Hcc HtL0]
  · isplitr; · iexact HR
    isplitl [Hx]; · iexact Hx
    isplitl [Hcc]; · iexact Hcc
    iexact HtL0
  iintro HcL
  iapply (wp_wait_one m K c kLoc locS (kcell_loc c) 0 (duties_loc m c 0 (by decide)) N1 (amount_loc0 m c 0) loc_sem (by rw [hdst]; rfl) _ _ (mw_loc0 c)) $$ [HO HcL HaL]
  · isplitr; · iexact HR
    isplitl [HcL]; · iexact HcL
    isplitl [HO]; · iexact HO
    iexact HaL
  iintro ⟨HO, HaL, HrL, Hp⟩
  ihave Hp' := (Entails.of_eq (payload_loc0 m c 0)) $$ Hp
  icases Hp' with ⟨Hcc, Hx⟩
  iapply Hk
  isplitl [HO]; · iexists _; iexact HO
  unfold midR
  isplitl [Hx]; · iexact Hx
  isplitl [Ho]; · iexact Ho
  isplitl [Ha]
  · iexists fa
    isplitr; · ipureintro; exact fun n h => absurd h (Nat.not_lt_zero _)
    iexact Ha
  isplitl [Hcc Hcp HrW]
  · iapply (recv0 m c)
    isplitl [Hcc Hcp]
    · isplitl [Hcc]; · iexact Hcc
      iexact Hcp
    unfold seven; iexact HrW
  unfold rest sent lentRows seven
  beta_reduce
  isplitl [HaB]; · iexact HaB
  isplitl [C0 C1 C2 C3 C4 C5 C6 P0 P1 P2 P3 P4 P5 P6]
  · isplitl [C0 P0]
    · isplitl [C0]; · iexact C0
      iexact P0
    isplitl [C1 P1]
    · isplitl [C1]; · iexact C1
      iexact P1
    isplitl [C2 P2]
    · isplitl [C2]; · iexact C2
      iexact P2
    isplitl [C3 P3]
    · isplitl [C3]; · iexact C3
      iexact P3
    isplitl [C4 P4]
    · isplitl [C4]; · iexact C4
      iexact P4
    isplitl [C5 P5]
    · isplitl [C5]; · iexact C5
      iexact P5
    isplitl [C6]; · iexact C6
    iexact P6
  isplitl [Bm0 Bm1 Bm2 Bm3 Bm4 Bm5 Bm6]
  · isplitl [Bm0]; · iexact Bm0
    isplitl [Bm1]; · iexact Bm1
    isplitl [Bm2]; · iexact Bm2
    isplitl [Bm3]; · iexact Bm3
    isplitl [Bm4]; · iexact Bm4
    isplitl [Bm5]; · iexact Bm5
    iexact Bm6
  isplitl [HmK]; · iexact HmK
  isplitl [HmW]; · iexact HmW
  isplitl [Hidle]; · iexact Hidle
  isplitl [Hmm]; · iexact Hmm
  isplitl [HaL]; · iexact HaL
  isplitl [HrL]; · iexact HrL
  iexact HtL1

end Seg1

end Cert.KernelIdeal.A2A

end
-- ==== Proof.Body2.lean ====
/- A grid point's own work: the wait for the block it multiplies, and the product added to its column block. -/
module

public import proofs.«01_k».proof.Proof.Body1

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The grid's conditions and coordinates in closed form -/

theorem cond1_iff : ∀ t : Fin cfg0.N, (k0_cond1 (grid0.coords t) = 1#1) ↔ t.val = 0 := by decide +kernel
theorem cond2_iff : ∀ (t : Fin cfg0.N) (c : Dev nD), (k0_cond2 (grid0.coords t) c = 1#1) ↔ (t.val % 4 = 0 ∧ t.val / 4 ≠ c.val) := by decide +kernel
theorem cond3_iff : ∀ t : Fin cfg0.N, (k0_cond3 (grid0.coords t) = 1#1) ↔ t.val / 4 = 0 := by decide +kernel
theorem cond4_iff : ∀ t : Fin cfg0.N, (k0_cond4 (grid0.coords t) = 1#1) ↔ t.val / 4 ≠ 0 := by decide +kernel
theorem cond5_iff : ∀ t : Fin cfg0.N, (k0_cond5 (grid0.coords t) = 1#1) ↔ t.val = 31 := by decide +kernel
theorem coords0 : ∀ t : Fin cfg0.N, (grid0.coords t 0).val = t.val / 4 := by decide +kernel
theorem coords1 : ∀ t : Fin cfg0.N, (grid0.coords t 1).val = t.val % 4 := by decide +kernel
theorem t_lt (t : Fin cfg0.N) : t.val < 32 := lt_of_lt_of_eq t.isLt N_0

/-- The block of the landing buffer point `t` multiplies, and the column block it adds to. -/
def kOf (t : Fin cfg0.N) : Fin 8 := ⟨t.val / 4, by have := t_lt t; omega⟩
def nOf (t : Fin cfg0.N) : Fin 4 := ⟨t.val % 4, Nat.mod_lt _ (by decide)⟩

/-! ## The accumulator, point by point -/

omit [FloatOps F] in
theorem read_write_col (n : Fin 4) (f : (cc0_scratch1 : Ref sig .tc).ty.Contents (Elt F)) (w : Vec F S512x2048 .f32) :
    (aM.view.slice (colR n)).read (Elt F) ((aM.view.slice (colR n)).write (Elt F) f w Finset.univ) = w :=
  View.read_write_univ _ _

omit [FloatOps F] in
theorem read_write_col_ne (n n' : Fin 4) (h : n ≠ n') (f : (cc0_scratch1 : Ref sig .tc).ty.Contents (Elt F)) (w : Vec F S512x2048 .f32) :
    (aM.view.slice (colR n)).read (Elt F) ((aM.view.slice (colR n')).write (Elt F) f w Finset.univ) = (aM.view.slice (colR n)).read (Elt F) f := by
  funext j
  rw [View.read_apply, View.read_apply]
  refine congrArg _ (View.write_of_not_mem _ _ _ ?_)
  intro hm
  obtain ⟨j', -, e⟩ := Finset.mem_map.mp hm
  have e1 := congrArg (fun i => (i 1).val) e
  have a1 : ((aM.view.slice (colR n)).emb j 1).val = 2048 * n.val + (j 1).val := ValueKit.view_emb_slice_whole_unit_val cc0_scratch1 ![0, 2048 * n.val] S512x2048.size (inbCol n) j 1
  have a2 : ((aM.view.slice (colR n')).emb j' 1).val = 2048 * n'.val + (j' 1).val := ValueKit.view_emb_slice_whole_unit_val cc0_scratch1 ![0, 2048 * n'.val] S512x2048.size (inbCol n') j' 1
  have b1 : (j 1).val < 2048 := (j 1).isLt
  have b2 : (j' 1).val < 2048 := (j' 1).isLt
  have e2 : ((aM.view.slice (colR n')).emb j' 1).val = ((aM.view.slice (colR n)).emb j 1).val := e1
  exact h (Fin.ext (by omega))

theorem xv_eq (c : Dev nD) (t : Fin cfg0.N) : (cB (kOf t)).view.read (Elt F) (commF m c) = xv m c (t.val / 4) := by
  have : kOf t = ⟨(t.val / 4) % 8, Nat.mod_lt _ (by decide)⟩ := Fin.ext (by show t.val / 4 = t.val / 4 % 8; have := t_lt t; omega)
  rw [this]; rfl
theorem ptOf_eq (t : Fin cfg0.N) : ptOf (t.val / 4) (t.val % 4) = t :=
  Fin.ext (by show (4 * (t.val / 4) + t.val % 4) % 32 = t.val; have := t_lt t; omega)

/-- Storing the next product at point `t`'s column block keeps the accumulator right. -/
theorem acc_next (c : Dev nD) (t : Fin cfg0.N) (f : (cc0_scratch1 : Ref sig .tc).ty.Contents (Elt F)) (w : Vec F S512x2048 .f32)
    (hf : AccOK m c t.val f) (hw : w = part m c (t.val % 4) (t.val / 4)) :
    AccOK m c (t.val + 1) ((aM.view.slice (colR (nOf t))).write (Elt F) f w Finset.univ) := by
  intro n hn
  have hn4 := n.isLt
  by_cases h : n = nOf t
  · subst h
    rw [read_write_col, hw]
    have e : (t.val + 1 - 1 - (nOf t).val) / 4 = t.val / 4 := by show (t.val + 1 - 1 - t.val % 4) / 4 = _; omega
    rw [e]; rfl
  · rw [read_write_col_ne _ _ h]
    have h' : n.val ≠ t.val % 4 := fun e => h (Fin.ext e)
    rw [hf n (by omega)]
    congr 1; omega

theorem part_first (c : Dev nD) (t : Fin cfg0.N) (h : t.val / 4 = 0) :
    k0_pay2 ((cB (kOf t)).view.read (Elt F) (commF m c)) (wv m c t) = part m c (t.val % 4) (t.val / 4) := by
  have e := ptOf_eq t
  rw [h] at e
  rw [xv_eq, h]
  show _ = k0_pay2 (xv m c 0) (wv m c (ptOf 0 (t.val % 4)))
  rw [e]
theorem part_later (c : Dev nD) (t : Fin cfg0.N) (h : t.val / 4 ≠ 0) (f : (cc0_scratch1 : Ref sig .tc).ty.Contents (Elt F))
    (hf : AccOK m c t.val f) :
    k0_pay3 ((cB (kOf t)).view.read (Elt F) (commF m c)) (wv m c t) ((aM.view.slice (colR (nOf t))).read (Elt F) f)
      = part m c (t.val % 4) (t.val / 4) := by
  have e := ptOf_eq t
  rw [hf (nOf t) (by show t.val % 4 < t.val; omega), xv_eq]
  have e2 : (t.val - 1 - (nOf t).val) / 4 = t.val / 4 - 1 := by show (t.val - 1 - t.val % 4) / 4 = _; omega
  rw [e2]
  obtain ⟨q, hq⟩ : ∃ q, t.val / 4 = q + 1 := ⟨t.val / 4 - 1, by omega⟩
  rw [hq] at e
  rw [hq]
  show _ = k0_pay3 (xv m c (q + 1)) (wv m c (ptOf (q + 1) (t.val % 4))) (part m c (t.val % 4) q)
  rw [e]; rfl

/-! ## The landing buffer, point by point -/

/-- A landed block's position. -/
def recvPos (c k : Dev nD) : sProp 𝕄 := if k = c then atPos ER (recvCell c k) 0 ∅ 0 else atPos ER (recvCell c k) 1 ∅ 0

theorem recv_split (c : Dev nD) (t : ℕ) (k : Dev nD) :
    (bigSep Finset.univ fun k' => recvSt m c t k') = iprop(recvSt m c t k ∗ bigSep (Finset.univ.erase k) fun k' => recvSt m c t k') :=
  bigSep_univ_at _ k
theorem recv_others (c : Dev nD) (t : Fin cfg0.N) :
    (bigSep (Finset.univ.erase (kOf t)) fun k' => recvSt m c t.val k') = bigSep (Finset.univ.erase (kOf t)) fun k' => recvSt m c (t.val + 1) k' :=
  bigSep_congr fun k hk => by
    have hne := Finset.ne_of_mem_erase hk
    have hv : k.val ≠ t.val / 4 := fun e => hne (Fin.ext e)
    unfold recvSt
    by_cases h : k = c
    · rw [if_pos h, if_pos h]
    · rw [if_neg h, if_neg h]
      by_cases h' : 4 * k.val < t.val
      · rw [if_pos h', if_pos (by omega)]
      · rw [if_neg h', if_neg (by omega)]
theorem recv_here (c : Dev nD) (t : Fin cfg0.N) :
    recvSt m c (t.val + 1) (kOf t) = iprop(cPts c (kOf t) (commF m c) ∗ recvPos c (kOf t)) := by
  unfold recvSt recvPos
  by_cases h : kOf t = c
  · rw [if_pos h, if_pos h]
  · rw [if_neg h, if_neg h, if_pos (by show 4 * (t.val / 4) < t.val + 1; omega)]
theorem recv_same (c : Dev nD) (t : Fin cfg0.N) (h : ¬ (t.val % 4 = 0 ∧ t.val / 4 ≠ c.val)) :
    recvSt m c t.val (kOf t) = recvSt m c (t.val + 1) (kOf t) := by
  unfold recvSt
  by_cases h' : kOf t = c
  · rw [if_pos h', if_pos h']
  · have hv : t.val / 4 ≠ c.val := fun e => h' (Fin.ext e)
    rw [if_neg h', if_neg h', if_pos (by show 4 * (t.val / 4) < t.val; omega), if_pos (by show 4 * (t.val / 4) < t.val + 1; omega)]
theorem recv_wait (c : Dev nD) (t : Fin cfg0.N) (h : t.val % 4 = 0 ∧ t.val / 4 ≠ c.val) :
    recvSt m c t.val (kOf t) = recvWait c (kOf t) ∧ kOf t ≠ c := by
  have h' : kOf t ≠ c := fun e => h.2 (congrArg Fin.val e)
  refine ⟨?_, h'⟩
  unfold recvSt
  rw [if_neg h', if_neg (by show ¬ 4 * (t.val / 4) < t.val; omega)]

/-! ## The steps of a point -/

section Point
variable (K : Dev nD × Fin 34 → ℕ) (t : Fin cfg0.N)

/-- A load of a landed block. -/
theorem wp_load_c (c : Dev nD) {α : Type} {Q : α → sProp 𝕄} {k : Vec F S512x512 .f32 → Prog (TpuEff nD τ sig (Elt F) Λ₀ .tc) α}
    (b : Fin 8) (f : (cc0_scratch0 : Ref sig .tc).ty.Contents (Elt F)) {off : Fin 2 → ℕ} (hoff : off = ![512 * b.val, 0])
    {inb} {hl : cM.view.LoadsAt (Rect.unit (s := S4096x512) off S512x512.size inb).toLoadRect} :
    cPts c b f ⊢ iprop((cPts c b f -∗ wp frame (wpE (defs₀ (F := F)) 𝒱₀ (c : Thread nD τ) none) Set.univ (k ((cB b).view.read (Elt F) f)) Q)
      -∗ wp frame (wpE (defs₀ (F := F)) 𝒱₀ (c : Thread nD τ) none) Set.univ
        (.op (.load cM (Rect.unit (s := S4096x512) off S512x512.size inb).toLoadRect hl) k) Q) := by
  subst hoff
  unfold cPts
  exact wp_load_rect 𝒱₀ (c : Thread nD τ) none Set.univ (m := cM) (r := rowR b) (k := k) subset_rfl

/-- A load, and a store, of a column block of the accumulator. -/
theorem wp_load_a (c : Dev nD) {α : Type} {Q : α → sProp 𝕄} {k : Vec F S512x2048 .f32 → Prog (TpuEff nD τ sig (Elt F) Λ₀ .tc) α}
    (n : Fin 4) (f : (cc0_scratch1 : Ref sig .tc).ty.Contents (Elt F)) {off : Fin 2 → ℕ} (hoff : off = ![0, 2048 * n.val])
    {inb} {hl : aM.view.LoadsAt (Rect.unit (s := S512x8192) off S512x2048.size inb).toLoadRect} :
    aPts c f ⊢ iprop((aPts c f -∗ wp frame (wpE (defs₀ (F := F)) 𝒱₀ (c : Thread nD τ) none) Set.univ (k ((aM.view.slice (colR n)).read (Elt F) f)) Q)
      -∗ wp frame (wpE (defs₀ (F := F)) 𝒱₀ (c : Thread nD τ) none) Set.univ
        (.op (.load aM (Rect.unit (s := S512x8192) off S512x2048.size inb).toLoadRect hl) k) Q) := by
  subst hoff
  unfold aPts
  exact wp_load_rect 𝒱₀ (c : Thread nD τ) none Set.univ (m := aM) (r := colR n) (k := k)
    (by rw [show (aM : Memref sig .tc .vmem S512x8192 .f32).view.set = Finset.univ from View.set_whole _]; exact Finset.subset_univ _)
theorem wp_store_a (c : Dev nD) {α : Type} {Q : α → sProp 𝕄} {k : PUnit → Prog (TpuEff nD τ sig (Elt F) Λ₀ .tc) α}
    (n : Fin 4) (f : (cc0_scratch1 : Ref sig .tc).ty.Contents (Elt F)) {off : Fin 2 → ℕ} (hoff : off = ![0, 2048 * n.val]) {w : Vec F S512x2048 .f32}
    {inb} {hx : (aM.access (Rect.unit (s := S512x8192) off S512x2048.size inb)).Stores Finset.univ} {hm} :
    aPts c f ⊢ iprop((aPts c ((aM.view.slice (colR n)).write (Elt F) f w Finset.univ)
          -∗ wp frame (wpE (defs₀ (F := F)) 𝒱₀ (c : Thread nD τ) none) Set.univ (k ⟨⟩) Q)
      -∗ wp frame (wpE (defs₀ (F := F)) 𝒱₀ (c : Thread nD τ) none) Set.univ
        (.op (.store aM (Rect.unit (s := S512x8192) off S512x2048.size inb) w Finset.univ hx hm) k) Q) := by
  subst hoff
  unfold aPts
  exact wp_store 𝒱₀ (c : Thread nD τ) none Set.univ (m := aM) (r := colR n) (k := k)
    (by rw [show (aM : Memref sig .tc .vmem S512x8192 .f32).view.set = Finset.univ from View.set_whole _]; exact Finset.subset_univ _)

omit [FloatOps F] in
theorem hz2 : (![0, 0] : Fin 2 → ℕ) = fun _ => 0 := funext fun a => by fin_cases a <;> rfl

omit [FloatOps F] in
/-- The rectangle of a whole shape reads what the view reads. -/
theorem read_full {sp : Space} {s : Shape} {e : EltTy} (v : View sig .tc sp s e) {off : Fin s.rank → ℕ} (h : off = fun _ => 0) (inb)
    (f : v.ty.Contents (Elt F)) : (v.slice (Rect.unit (s := s) off s.size inb)).read (Elt F) f = v.read (Elt F) f := by
  subst h
  funext j
  rw [View.read_apply, View.read_apply, View.emb_slice]
  congr 2
  refine congrArg v.emb (funext fun a => Fin.ext ?_)
  exact (ValueKit.rect_emb_unit_val _ _ _ j a).trans (Nat.zero_add _)

/-- A load of the staged weight block. -/
theorem wp_load_w (c : Dev nD) {α : Type} {Q : α → sProp 𝕄} {k : Vec F S512x2048 .f32 → Prog (TpuEff nD τ sig (Elt F) Λ₀ .tc) α}
    (a3 : Memref sig .tc .vmem S512x2048 .f32) (f : Buf (Elt F) (a3.view.loc (c : Thread nD τ)))
    {inb} {hl : a3.view.LoadsAt (Rect.unit (s := S512x2048) ![0, 0] S512x2048.size inb).toLoadRect} :
    (a3.view.loc (c : Thread nD τ) ↦[a3.view.set]{fullShare} f)
      ⊢ iprop(((a3.view.loc (c : Thread nD τ) ↦[a3.view.set]{fullShare} f)
          -∗ wp frame (wpE (defs₀ (F := F)) 𝒱₀ (c : Thread nD τ) none) Set.univ (k (a3.view.read (Elt F) f)) Q)
      -∗ wp frame (wpE (defs₀ (F := F)) 𝒱₀ (c : Thread nD τ) none) Set.univ
        (.op (.load a3 (Rect.unit (s := S512x2048) ![0, 0] S512x2048.size inb).toLoadRect hl) k) Q) := by
  rw [← read_full a3.view hz2 inb f]
  exact wp_load_rect 𝒱₀ (c : Thread nD τ) none Set.univ (m := a3) (r := Rect.unit (s := S512x2048) ![0, 0] S512x2048.size inb) (k := k)
    (by show (a3.view.slice _).set ⊆ _; rw [View.set_slice]; exact Finset.map_subset_iff_subset_preimage.mpr (fun i _ => by simp [View.set]))

/-- The wait for a landing, where the point has one. -/
theorem seg2 (c : Dev nD) {α : Type} {Q : α → sProp 𝕄} {kont : Prog (TpuEff nD τ sig (Elt F) Λ₀ .tc) α} :
    iprop(recs m K ∗ (∃ W, owes (c : Thread nD τ) (owA c 1) W) ∗ (bigSep Finset.univ fun k => recvSt m c t.val k))
      ⊢ iprop((((∃ W, owes (c : Thread nD τ) (owA c 1) W) ∗ (bigSep Finset.univ fun k => recvSt m c (t.val + 1) k))
            -∗ wp frame (wpE (defs₀ (F := F)) 𝒱₀ (c : Thread nD τ) none) Set.univ kont Q)
        -∗ wp frame (wpE (defs₀ (F := F)) 𝒱₀ (c : Thread nD τ) none) Set.univ
          (if k0_h2 : k0_cond2 (grid0.coords t) c = 1#1 then
            .op (.waitDma2 ((cc0_scratch4.slice (Rect.unit (s := S8) (k0_off4 (grid0.coords t)) S1.size (k0_off4_inb (grid0.coords t) c k0_h2))).squeeze S_ squeezes_S1_S_).sem
              (xM.slice (Rect.unit (s := S4096x512) ![0, 0] S512x512.size inb_S4096x512_S512x512_0_0) (fun _ => rfl))
              (cM.slice (Rect.unit (s := S4096x512) (k0_off5 (grid0.coords t)) S512x512.size (k0_off5_inb (grid0.coords t) c k0_h2)) (fun _ => rfl))
              (View.wordExact_bits rfl) (View.wordExact_bits rfl)) (fun _ => kont)
          else kont) Q) := by
  rw [recv_split m c t.val (kOf t), recv_split m c (t.val + 1) (kOf t), recv_others]
  iintro ⟨#HR, ⟨%W, HO⟩, Hk, Hr⟩ Hc
  by_cases h : k0_cond2 (grid0.coords t) c = 1#1
  · rw [dif_pos h]
    have h' := (cond2_iff t c).mp h
    obtain ⟨e, hne⟩ := recv_wait m c t h'
    have hk4 : k0_off4 (grid0.coords t) = ![(kOf t).val] := by rw [k0_off4_eq, coords0]; rfl
    have hk5 : k0_off5 (grid0.coords t) = ![512 * (kOf t).val, 0] := by rw [k0_off5_eq, coords0]; rfl
    ihave Hk := (Entails.of_eq e) $$ Hk
    unfold recvWait
    icases Hk with ⟨Hcr, Ha⟩
    iapply (wp_wait_one m K c (kRecv (kOf t)) (recvS (kOf t)) (kcell_recv c (kOf t)) 0 (duties_recv m c (kOf t) hne) N1 (amount_recv m c (kOf t) 0)
        (recv_sem (kOf t) _ hk4 _) (by rw [c_blk (kOf t) _ hk5]; rfl) _ _ (mw_recv c (kOf t))) $$ [HO Hcr Ha]
    · isplitr; · iexact HR
      isplitl [Hcr]; · iexact Hcr
      isplitl [HO]; · iexact HO
      iexact Ha
    iintro ⟨HO, Ha, -, Hp⟩
    ihave Hp' := (Entails.of_eq (payload_recv m c (kOf t) 0)) $$ Hp
    iapply Hc
    isplitl [HO]; · iexists _; iexact HO
    isplitl [Hp' Ha]
    · rw [recv_here]; unfold recvPos; rw [if_neg hne]
      isplitl [Hp']; · iexact Hp'
      iexact Ha
    iexact Hr
  · rw [dif_neg h]
    ihave Hk := (Entails.of_eq (recv_same m c t (fun h' => h ((cond2_iff t c).mpr h')))) $$ Hk
    iapply Hc
    isplitl [HO]; · iexists _; iexact HO
    isplitl [Hk]; · iexact Hk
    iexact Hr

/-- The product of a point added to its column block. -/
theorem seg3 (c : Dev nD) {α : Type} {Q : α → sProp 𝕄} {kont : Prog (TpuEff nD τ sig (Elt F) Λ₀ .tc) α}
    (a3 : Memref sig .tc .vmem S512x2048 .f32) (f3 : Buf (Elt F) (a3.view.loc (c : Thread nD τ))) (hf3 : a3.view.read (Elt F) f3 = wv m c t) :
    iprop((bigSep Finset.univ fun k => recvSt m c (t.val + 1) k) ∗ (a3.view.loc (c : Thread nD τ) ↦[a3.view.set]{fullShare} f3)
        ∗ (∃ f, ⌜AccOK m c t.val f⌝ ∗ aPts c f))
      ⊢ iprop((((bigSep Finset.univ fun k => recvSt m c (t.val + 1) k) ∗ (a3.view.loc (c : Thread nD τ) ↦[a3.view.set]{fullShare} f3)
              ∗ (∃ f, ⌜AccOK m c (t.val + 1) f⌝ ∗ aPts c f))
            -∗ wp frame (wpE (defs₀ (F := F)) 𝒱₀ (c : Thread nD τ) none) Set.univ kont Q)
        -∗ wp frame (wpE (defs₀ (F := F)) 𝒱₀ (c : Thread nD τ) none) Set.univ
          (.op (.load cM (Rect.unit (s := S4096x512) (k0_off6 (grid0.coords t)) S512x512.size (k0_off6_inb (grid0.coords t))).toLoadRect (View.loadsAt_vmem h_S512x512)) fun v15 =>
           .op (.load a3 (Rect.unit (s := S512x2048) ![0, 0] S512x2048.size inb_S512x2048_S512x2048_0_0).toLoadRect (View.loadsAt_vmem h_S512x2048)) fun v16 =>
           if k0_h3 : k0_cond3 (grid0.coords t) = 1#1 then
             .op (.load aM (Rect.unit (s := S512x8192) (k0_off7 (grid0.coords t)) S512x2048.size (k0_off7_inb (grid0.coords t) k0_h3)).toLoadRect (View.loadsAt_vmem h_S512x2048)) fun v32 =>
             .op (.store aM (Rect.unit (s := S512x8192) (k0_off7 (grid0.coords t)) S512x2048.size (k0_off7_inb (grid0.coords t) k0_h3)) (k0_pay2 v15 v16) Finset.univ (View.stores_vmem_bits_univ h_S512x2048 rfl) (.inl rfl)) fun _ =>
             if k0_h4 : k0_cond4 (grid0.coords t) = 1#1 then
               .op (.load aM (Rect.unit (s := S512x8192) (k0_off8 (grid0.coords t)) S512x2048.size (k0_off8_inb (grid0.coords t) k0_h4)).toLoadRect (View.loadsAt_vmem h_S512x2048)) fun v32 =>
               .op (.load aM (Rect.unit (s := S512x8192) (k0_off8 (grid0.coords t)) S512x2048.size (k0_off8_inb (grid0.coords t) k0_h4)).toLoadRect (View.loadsAt_vmem h_S512x2048)) fun v35 =>
               .op (.store aM (Rect.unit (s := S512x8192) (k0_off8 (grid0.coords t)) S512x2048.size (k0_off8_inb (grid0.coords t) k0_h4)) (k0_pay3 v15 v16 v32) Finset.univ (View.stores_vmem_bits_univ h_S512x2048 rfl) (.inl rfl)) fun _ => kont
             else kont
           else
             if k0_h4 : k0_cond4 (grid0.coords t) = 1#1 then
               .op (.load aM (Rect.unit (s := S512x8192) (k0_off8 (grid0.coords t)) S512x2048.size (k0_off8_inb (grid0.coords t) k0_h4)).toLoadRect (View.loadsAt_vmem h_S512x2048)) fun v32 =>
               .op (.load aM (Rect.unit (s := S512x8192) (k0_off8 (grid0.coords t)) S512x2048.size (k0_off8_inb (grid0.coords t) k0_h4)).toLoadRect (View.loadsAt_vmem h_S512x2048)) fun v35 =>
               .op (.store aM (Rect.unit (s := S512x8192) (k0_off8 (grid0.coords t)) S512x2048.size (k0_off8_inb (grid0.coords t) k0_h4)) (k0_pay3 v15 v16 v32) Finset.univ (View.stores_vmem_bits_univ h_S512x2048 rfl) (.inl rfl)) fun _ => kont
             else kont) Q) := by
  have hk6 : k0_off6 (grid0.coords t) = ![512 * (kOf t).val, 0] := by rw [k0_off6_eq, coords0]; rfl
  have hk7 : k0_off7 (grid0.coords t) = ![0, 2048 * (nOf t).val] := by rw [k0_off7_eq, coords1]; rfl
  have hk8 : k0_off8 (grid0.coords t) = ![0, 2048 * (nOf t).val] := by rw [k0_off8_eq, coords1]; rfl
  rw [recv_split m c (t.val + 1) (kOf t), recv_here]
  iintro ⟨⟨⟨Hx, Hpos⟩, Hr⟩, Hw, ⟨%f, %hf, Ha⟩⟩ Hc
  iapply (wp_load_c c (kOf t) (commF m c) hk6) $$ Hx; iintro Hx
  iapply (wp_load_w c a3 f3) $$ Hw; iintro Hw
  rw [hf3]
  by_cases h3 : k0_cond3 (grid0.coords t) = 1#1
  · have h3' := (cond3_iff t).mp h3
    rw [dif_pos h3, dif_neg (fun h => (cond4_iff t).mp h h3')]
    iapply (wp_load_a c (nOf t) f hk7) $$ Ha; iintro Ha
    iapply (wp_store_a c (nOf t) f hk7) $$ Ha; iintro Ha
    iapply Hc
    isplitl [Hx Hpos Hr]
    · isplitl [Hx Hpos]
      · isplitl [Hx] <;> iassumption
      iexact Hr
    isplitl [Hw]; · iexact Hw
    iexists _
    isplitr; · ipureintro; exact acc_next m c t f _ hf (part_first m c t h3')
    iexact Ha
  · have h4' : t.val / 4 ≠ 0 := fun h => h3 ((cond3_iff t).mpr h)
    rw [dif_neg h3, dif_pos ((cond4_iff t).mpr h4')]
    iapply (wp_load_a c (nOf t) f hk8) $$ Ha; iintro Ha
    iapply (wp_load_a c (nOf t) f hk8) $$ Ha; iintro Ha
    iapply (wp_store_a c (nOf t) f hk8) $$ Ha; iintro Ha
    iapply Hc
    isplitl [Hx Hpos Hr]
    · isplitl [Hx Hpos]
      · isplitl [Hx] <;> iassumption
      iexact Hr
    isplitl [Hw]; · iexact Hw
    iexists _
    isplitr; · ipureintro; exact acc_next m c t f _ hf (part_later m c t h4' f hf)
    iexact Ha

end Point

end Cert.KernelIdeal.A2A

end
-- ==== Proof.Body3.lean ====
/- The last point's pieces: the completed accumulator and table, blocks against whole buffers, closing the cells, whole loads and stores. -/
module

public import proofs.«01_k».proof.Proof.Body2

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The accumulator and the table of maxima once they are complete -/

theorem acc_final (c : Dev nD) (f : (cc0_scratch1 : Ref sig .tc).ty.Contents (Elt F)) (h : AccOK m c 32 f) : f = accF m c := by
  funext i
  have h1 : (i 1).val < 8192 := (i 1).isLt
  have hn : (i 1).val / 2048 < 4 := by omega
  have hA := congrFun (h ⟨(i 1).val / 2048, hn⟩ (by show (i 1).val / 2048 < 32; omega))
    (ValueIdx.ix2 (n0 := 512) (n1 := 2048) (i 0) ⟨(i 1).val % 2048, Nat.mod_lt _ (by decide)⟩)
  have h7 : (32 - 1 - (i 1).val / 2048) / 4 = 7 := by omega
  unfold accF
  rw [← show (32 - 1 - (⟨(i 1).val / 2048, hn⟩ : Fin 4).val) / 4 = 7 from h7, ← hA, View.read_apply]
  show f i = f _
  congr 1
  refine funext (Fin.forall_fin_two.mpr ⟨Fin.ext ?_, Fin.ext ?_⟩)
  · refine ((ValueKit.view_emb_slice_whole_unit_val cc0_scratch1 ![0, 2048 * ((i 1).val / 2048)] S512x2048.size (inbCol ⟨_, hn⟩) _ 0).trans ?_).symm
    show 0 + (i 0).val = (i 0).val; omega
  · refine ((ValueKit.view_emb_slice_whole_unit_val cc0_scratch1 ![0, 2048 * ((i 1).val / 2048)] S512x2048.size (inbCol ⟨_, hn⟩) _ 1).trans ?_).symm
    show 2048 * ((i 1).val / 2048) + (i 1).val % 2048 = (i 1).val; omega

/-- The core's own row of maxima, once stored. -/
theorem own_row (c : Dev nD) (f : (cc0_scratch2 : Ref sig .tc).ty.Contents (Elt F)) :
    ∀ i ∈ (mB c).view.set, (mB c).view.write (Elt F) f (k0_pay5 (accF m c)) Finset.univ i = amaxF m i := by
  intro i hi
  obtain ⟨j, -, rfl⟩ := Finset.mem_map.mp hi
  have hw : ∀ w : Vec F S1x128 .f32, (mB c).view.write (Elt F) f w Finset.univ ((mB c).view.emb j) = w j := fun w => by
    rw [View.write_emb_of_mem _ _ (Finset.mem_univ j)]; rfl
  refine (hw _).trans ?_
  have hj : (j 0).val < 1 := (j 0).isLt
  have e0 : ((mB c).view.emb j 0).val = c.val + (j 0).val :=
    ValueKit.view_emb_slice_whole_unit_val cc0_scratch2 ![c.val, 0] S1x128.size (inbMax c) j 0
  have e1 : ((mB c).view.emb j 1).val = 0 + (j 1).val := ValueKit.view_emb_slice_whole_unit_val cc0_scratch2 ![c.val, 0] S1x128.size (inbMax c) j 1
  unfold amaxF
  have hc : (⟨((mB c).view.emb j 0).val, ((mB c).view.emb j 0).isLt⟩ : Dev nD) = c := Fin.ext (by show ((mB c).view.emb j 0).val = c.val; omega)
  have hjj : j = ValueIdx.ix2 (n0 := 1) (n1 := 128) 0 ((mB c).view.emb j 1) :=
    funext (Fin.forall_fin_two.mpr ⟨Fin.ext (by show (j 0).val = 0; omega), Fin.ext (by show (j 1).val = ((mB c).view.emb j 1).val; omega)⟩)
  exact (congrArg (k0_pay5 (accF m c)) hjj).trans
    (congrArg (fun d : Dev nD => k0_pay5 (accF m d) (ValueIdx.ix2 (n0 := 1) (n1 := 128) 0 ((mB c).view.emb j 1))) hc.symm)

/-! ## Blocks and whole buffers -/

theorem row_disj (k k' : Fin 8) (h : k ≠ k') : Disjoint (rowR k).set (rowR k').set :=
  Ring.lead_disjoint (s := S4096x512) (NB := 8) (0 : Fin 2) 512 (fun k : Fin 8 => ![512 * k.val, 0]) S512x512.size inbRow
    (by intro b; rfl) (by rfl) k k' h
theorem row_cover : Finset.univ.biUnion (fun k : Fin 8 => (rowR k).set) = Finset.univ :=
  Ring.lead_cover (s := S4096x512) (NB := 8) (0 : Fin 2) 512 (fun k : Fin 8 => ![512 * k.val, 0]) S512x512.size inbRow
    (by intro b; rfl)
    (by intro b a; revert a; exact Fin.forall_fin_two.mpr ⟨fun h => absurd rfl h, fun _ => rfl⟩) (by rfl)
    (Fin.forall_fin_two.mpr ⟨fun h => absurd rfl h, fun _ => rfl⟩) (by decide)
theorem max_disj (k k' : Fin 8) (h : k ≠ k') : Disjoint (maxR k).set (maxR k').set :=
  Ring.lead_disjoint (s := S8x128) (NB := 8) (0 : Fin 2) 1 (fun k : Fin 8 => ![k.val, 0]) S1x128.size inbMax
    (by intro b; exact (Nat.one_mul _).symm) (by rfl) k k' h
theorem max_cover : Finset.univ.biUnion (fun k : Fin 8 => (maxR k).set) = Finset.univ :=
  Ring.lead_cover (s := S8x128) (NB := 8) (0 : Fin 2) 1 (fun k : Fin 8 => ![k.val, 0]) S1x128.size inbMax
    (by intro b; exact (Nat.one_mul _).symm)
    (by intro b a; revert a; exact Fin.forall_fin_two.mpr ⟨fun h => absurd rfl h, fun _ => rfl⟩) (by rfl)
    (Fin.forall_fin_two.mpr ⟨fun h => absurd rfl h, fun _ => rfl⟩) (by decide)

theorem x_blocks (c : Dev nD) (f : Buf (Elt F) ((c : Thread nD τ).loc main_arg0)) :
    ((c : Thread nD τ).loc main_arg0 ↦{fullShare} f : sProp 𝕄)
      = bigSep Finset.univ fun k : Fin 8 => (xB k).view.loc (c : Thread nD τ) ↦[(xB k).view.set]{fullShare} f :=
  (Ring.pointsTo_blocks (ℓ := (c : Thread nD τ).loc main_arg0) (fun k : Fin 8 => (rowR k).set) row_disj row_cover f).trans
    (bigSep_congr fun k _ => by rw [View.set_slice_whole])
theorem c_blocks (c : Dev nD) (f : Buf (Elt F) ((c : Thread nD τ).loc cc0_scratch0)) :
    ((c : Thread nD τ).loc cc0_scratch0 ↦{fullShare} f : sProp 𝕄) = bigSep Finset.univ fun k : Fin 8 => cPts c k f :=
  (Ring.pointsTo_blocks (ℓ := (c : Thread nD τ).loc cc0_scratch0) (fun k : Fin 8 => (rowR k).set) row_disj row_cover f).trans
    (bigSep_congr fun k _ => by unfold cPts; rw [View.set_slice_whole])
theorem m_blocks (c : Dev nD) (f : Buf (Elt F) ((c : Thread nD τ).loc cc0_scratch2)) :
    ((c : Thread nD τ).loc cc0_scratch2 ↦{fullShare} f : sProp 𝕄) = bigSep Finset.univ fun k : Fin 8 => mPts c k fullShare f :=
  (Ring.pointsTo_blocks (ℓ := (c : Thread nD τ).loc cc0_scratch2) (fun k : Fin 8 => (maxR k).set) max_disj max_cover f).trans
    (bigSep_congr fun k _ => by unfold mPts; rw [View.set_slice_whole])

omit [FloatOps F] in
theorem assoc_eq (P Q R : sProp 𝕄) : iprop((P ∗ Q) ∗ R) = iprop(P ∗ Q ∗ R) :=
  BI.equiv_iff.mp ⟨BI.sep_assoc, BI.sep_assoc'⟩
omit [FloatOps F] in
theorem eight_eq (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
/-- The first seven of eight, and the last. -/
theorem eight_slots (Φ : Fin 8 → sProp 𝕄) : bigSep Finset.univ Φ = iprop((seven fun r => Φ (slot r)) ∗ Φ 7) := by
  rw [eight_eq]; unfold seven
  simp only [assoc_eq]; rfl
/-- The device itself, and the seven others. -/
theorem eight_peers (c : Dev nD) (Φ : Dev nD → sProp 𝕄) : bigSep Finset.univ Φ = iprop(Φ c ∗ seven fun r => Φ (pr c r)) := by
  rw [← peers_eq]; exact bigSep_univ_at _ c

omit [FloatOps F] in
/-- A family over a core's thirty-four cells, array by array. -/
theorem cells_eq (Φ : Fin 34 → sProp 𝕄) : bigSep Finset.univ Φ
    = iprop(Φ 0 ∗ (bigSep Finset.univ fun j => Φ (kSend j)) ∗ (bigSep Finset.univ fun j => Φ (kRecv j))
        ∗ (bigSep Finset.univ fun j => Φ (kASend j)) ∗ (bigSep Finset.univ fun j => Φ (kARecv j)) ∗ Φ kLoc) := by
  rw [eight_eq, eight_eq, eight_eq, eight_eq]
  simp only [assoc_eq]
  exact bigSep_univ_eq_bigSepL (List.finRange 34) (by decide) (by decide) Φ

/-! ## The cells close -/

/-- The round a cell stands at when the kernel ends. -/
def lastRound (c : Dev nD) (k : Fin 34) : ℕ :=
  if k = kSend 7 ∨ k = kASend 7 ∨ k = kRecv c ∨ k = kARecv c then 0 else if k = kLoc then 2 else 1

theorem duties_last (c : Dev nD) (k : Fin 34) : ∀ r, lastRound c k ≤ r → (sched (F := F) m).duties (kcell (c, k)) r = ∅ := by
  intro r
  unfold lastRound
  by_cases h : k = kSend 7 ∨ k = kASend 7 ∨ k = kRecv c ∨ k = kARecv c
  · intro _
    have hd := duties_none m c
    rcases h with rfl | rfl | rfl | rfl
    · rw [kcell_send]; exact hd.1 r
    · rw [kcell_asend]; exact hd.2.2.1 r
    · rw [kcell_recv]; exact hd.2.1 r
    · rw [kcell_arecv]; exact hd.2.2.2 r
  · rw [if_neg h]
    by_cases hl : k = kLoc
    · rw [if_pos hl]; subst hl; intro hr; rw [kcell_loc]; exact duties_loc_later m c r hr
    · rw [if_neg hl]; intro hr
      refine duties_later m _ ?_ r hr
      exact (show ∀ k : Fin 34, k ≠ kLoc → kindOf (csem k) ≠ .loc by decide) k hl

theorem close_all (K : Dev nD × Fin 34 → ℕ) (c : Dev nD) :
    iprop(recs m K ∗ bigSep Finset.univ fun k : Fin 34 => atPos ER (kcell (c, k)) (lastRound c k) ∅ 0)
      ⊢ |={Set.univ}=> bigSep Finset.univ fun k : Fin 34 => (semVal (kcell (c, k)) 0 : sProp 𝕄) := by
  refine (show _ ⊢ bigSep Finset.univ fun k : Fin 34 => iprop(|={Set.univ}=> (semVal (kcell (c, k)) 0 : sProp 𝕄)) from ?_).trans (bigSep_fupd _ _)
  refine bigSep_with_persistent fun k _ => ?_
  exact close_cell m K c k _ rfl _ (duties_last m c k)

/-! ## Loads and stores of whole buffers -/

theorem wp_load_full (c : Dev nD) {α : Type} {Q : α → sProp 𝕄} {sp : CoreSpace} {s : Shape} {e : EltTy} {k : Vec F s e → Prog (TpuEff nD τ sig (Elt F) Λ₀ .tc) α}
    (M : Memref sig .tc sp s e) (f : Buf (Elt F) (M.view.loc (c : Thread nD τ))) {off : Fin s.rank → ℕ} (hz : off = fun _ => 0)
    {inb} {hl : M.view.LoadsAt (Rect.unit (s := s) off s.size inb).toLoadRect} :
    (M.view.loc (c : Thread nD τ) ↦[M.view.set]{fullShare} f)
      ⊢ iprop(((M.view.loc (c : Thread nD τ) ↦[M.view.set]{fullShare} f)
          -∗ wp frame (wpE (defs₀ (F := F)) 𝒱₀ (c : Thread nD τ) none) Set.univ (k (M.view.read (Elt F) f)) Q)
      -∗ wp frame (wpE (defs₀ (F := F)) 𝒱₀ (c : Thread nD τ) none) Set.univ
        (.op (.load M (Rect.unit (s := s) off s.size inb).toLoadRect hl) k) Q) := by
  rw [← read_full M.view hz inb f]
  exact wp_load_rect 𝒱₀ (c : Thread nD τ) none Set.univ (m := M) (r := Rect.unit (s := s) off s.size inb) (k := k)
    (by show (M.view.slice _).set ⊆ _; rw [View.set_slice]; exact Finset.map_subset_iff_subset_preimage.mpr (fun i _ => by simp [View.set]))

/-- The whole accumulator loaded, and stored. -/
theorem wp_load_acc (c : Dev nD) {α : Type} {Q : α → sProp 𝕄} {k : Vec F S512x8192 .f32 → Prog (TpuEff nD τ sig (Elt F) Λ₀ .tc) α}
    (f : (cc0_scratch1 : Ref sig .tc).ty.Contents (Elt F)) {inb} {hl : aM.view.LoadsAt (Rect.unit (s := S512x8192) ![0, 0] S512x8192.size inb).toLoadRect} :
    aPts c f ⊢ iprop((aPts c f -∗ wp frame (wpE (defs₀ (F := F)) 𝒱₀ (c : Thread nD τ) none) Set.univ (k f) Q)
      -∗ wp frame (wpE (defs₀ (F := F)) 𝒱₀ (c : Thread nD τ) none) Set.univ
        (.op (.load aM (Rect.unit (s := S512x8192) ![0, 0] S512x8192.size inb).toLoadRect hl) k) Q) :=
  wp_load_full c aM f hz2
theorem wp_store_acc (c : Dev nD) {α : Type} {Q : α → sProp 𝕄} {k : PUnit → Prog (TpuEff nD τ sig (Elt F) Λ₀ .tc) α}
    (f : (cc0_scratch1 : Ref sig .tc).ty.Contents (Elt F)) {w : Vec F S512x8192 .f32} {inb}
    {hx : (aM.access (Rect.unit (s := S512x8192) ![0, 0] S512x8192.size inb)).Stores Finset.univ} {hm} :
    aPts c f ⊢ iprop((aPts c w -∗ wp frame (wpE (defs₀ (F := F)) 𝒱₀ (c : Thread nD τ) none) Set.univ (k ⟨⟩) Q)
      -∗ wp frame (wpE (defs₀ (F := F)) 𝒱₀ (c : Thread nD τ) none) Set.univ
        (.op (.store aM (Rect.unit (s := S512x8192) ![0, 0] S512x8192.size inb) w Finset.univ hx hm) k) Q) := by
  rw [show aPts c w = aPts c ((aM.access (Rect.unit (s := S512x8192) ![0, 0] S512x8192.size inb)).write (Elt F) f w Finset.univ) from
    congrArg (aPts c) (Memref.write_access_unit_zero_univ (Elt F) cc0_scratch1 hz2 inb f w).symm]
  unfold aPts
  exact wp_store 𝒱₀ (c : Thread nD τ) none Set.univ (m := aM) (r := Rect.unit (s := S512x8192) ![0, 0] S512x8192.size inb) (k := k)
    (by rw [show (aM : Memref sig .tc .vmem S512x8192 .f32).view.set = Finset.univ from View.set_whole _]; exact Finset.subset_univ _)

/-- The core's own row of maxima loaded, and stored. -/
theorem wp_load_row (c : Dev nD) {α : Type} {Q : α → sProp 𝕄} {k : Vec F S1x128 .f32 → Prog (TpuEff nD τ sig (Elt F) Λ₀ .tc) α}
    (f : (cc0_scratch2 : Ref sig .tc).ty.Contents (Elt F)) {off : Fin 2 → ℕ} (hoff : off = ![c.val, 0])
    {inb} {hl : mM.view.LoadsAt (Rect.unit (s := S8x128) off S1x128.size inb).toLoadRect} :
    mPts c c fullShare f ⊢ iprop((mPts c c fullShare f -∗ wp frame (wpE (defs₀ (F := F)) 𝒱₀ (c : Thread nD τ) none) Set.univ (k ((mB c).view.read (Elt F) f)) Q)
      -∗ wp frame (wpE (defs₀ (F := F)) 𝒱₀ (c : Thread nD τ) none) Set.univ
        (.op (.load mM (Rect.unit (s := S8x128) off S1x128.size inb).toLoadRect hl) k) Q) := by
  subst hoff
  unfold mPts
  exact wp_load_rect 𝒱₀ (c : Thread nD τ) none Set.univ (m := mM) (r := maxR c) (k := k) subset_rfl
theorem wp_store_row (c : Dev nD) {α : Type} {Q : α → sProp 𝕄} {k : PUnit → Prog (TpuEff nD τ sig (Elt F) Λ₀ .tc) α}
    (f : (cc0_scratch2 : Ref sig .tc).ty.Contents (Elt F)) {off : Fin 2 → ℕ} (hoff : off = ![c.val, 0])
    {inb} {hx : (mM.access (Rect.unit (s := S8x128) off S1x128.size inb)).Stores Finset.univ} {hm} :
    mPts c c fullShare f ⊢ iprop((mPts c c fullShare (amaxF m) -∗ wp frame (wpE (defs₀ (F := F)) 𝒱₀ (c : Thread nD τ) none) Set.univ (k ⟨⟩) Q)
      -∗ wp frame (wpE (defs₀ (F := F)) 𝒱₀ (c : Thread nD τ) none) Set.univ
        (.op (.store mM (Rect.unit (s := S8x128) off S1x128.size inb) (k0_pay5 (accF m c)) Finset.univ hx hm) k) Q) := by
  subst hoff
  rw [show mPts c c fullShare (amaxF m) = mPts c c fullShare ((mB c).view.write (Elt F) f (k0_pay5 (accF m c)) Finset.univ) from
    (pointsTo_congr (own_row m c f)).symm]
  unfold mPts
  exact wp_store 𝒱₀ (c : Thread nD τ) none Set.univ (m := mM) (r := maxR c) (k := k) subset_rfl

end Cert.KernelIdeal.A2A

end
-- ==== Proof.Body4.lean ====
/- The last point: the exchange of the rows of maxima, every wait still open, the scaling, the copy of the result, the cells closed. -/
module

public import proofs.«01_k».proof.Proof.Body3

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a core holds once the kernel is done. -/
def endR (c : Dev nD) : sProp 𝕄 :=
  iprop(((c : Thread nD τ).loc main_arg0 ↦{fullShare} xBuf m c) ∗ oPts c (outF m c) ∗ aPts c (outF m c)
    ∗ ((c : Thread nD τ).loc cc0_scratch0 ↦{fullShare} commF m c) ∗ ((c : Thread nD τ).loc cc0_scratch2 ↦{fullShare} amaxF m)
    ∗ bigSep Finset.univ fun k : Fin 34 => semVal (kcell (c, k)) 0)

theorem xN1 {inb} : (xM.slice (Rect.unit (s := S4096x512) ![0, 0] S512x512.size inb) (fun _ => rfl)).view.dmaCredit = N1 := rfl

theorem mN2 {off : Fin 2 → ℕ} {inb} : (mM.slice (Rect.unit (s := S8x128) off S1x128.size inb) (fun _ => rfl)).view.dmaCredit = N2 := rfl

theorem x_whole (c : Dev nD) : ((c : Thread nD τ).loc main_arg0 ↦{fullShare} xBuf m c : sProp 𝕄) = bigSep Finset.univ fun k : Fin 8 => xPts m c k :=
  x_blocks c (xBuf m c)

/-- The landing buffer once every block is in: whole, and the positions beside it. -/
theorem recv_end (c : Dev nD) : (bigSep Finset.univ fun k => recvSt m c 32 k)
    = iprop(((c : Thread nD τ).loc cc0_scratch0 ↦{fullShare} commF m c) ∗ bigSep Finset.univ fun k : Fin 8 => recvPos (F := F) c k) := by
  rw [c_blocks, ← bigSep_sep']
  refine bigSep_congr fun k _ => ?_
  unfold recvSt recvPos
  by_cases h : k = c
  · rw [if_pos h, if_pos h]
  · have hk : k.val < 8 := k.isLt
    rw [if_neg h, if_neg h, if_pos (by omega)]

/-- Every cell at its last round, array by array. -/
theorem last_eq (c : Dev nD) : (bigSep Finset.univ fun k : Fin 34 => (atPos ER (kcell (c, k)) (lastRound c k) ∅ 0 : sProp 𝕄))
    = iprop(atPos ER (barCell c) 1 ∅ 0
        ∗ ((seven fun r => atPos ER (sendCell c (slot r)) 1 ∅ 0) ∗ atPos ER (sendCell c 7) 0 ∅ 0)
        ∗ (bigSep Finset.univ fun k : Fin 8 => recvPos (F := F) c k)
        ∗ ((seven fun r => atPos ER (asendCell c (slot r)) 1 ∅ 0) ∗ atPos ER (asendCell c 7) 0 ∅ 0)
        ∗ (atPos ER (arecvCell c c) 0 ∅ 0 ∗ (seven fun r => atPos ER (arecvCell c (pr c r)) 1 ∅ 0))
        ∗ atPos ER (locCell c) 2 ∅ 0) := by
  have hb : lastRound c 0 = 1 := by revert c; decide
  have hs : ∀ r : Fin 7, lastRound c (kSend (slot r)) = 1 := by revert c; decide
  have hs7 : lastRound c (kSend 7) = 0 := by revert c; decide
  have ha : ∀ r : Fin 7, lastRound c (kASend (slot r)) = 1 := by revert c; decide
  have ha7 : lastRound c (kASend 7) = 0 := by revert c; decide
  have hr : ∀ k : Fin 8, lastRound c (kRecv k) = if k = c then 0 else 1 := by revert c; decide
  have hv : ∀ r : Fin 7, lastRound c (kARecv (pr c r)) = 1 := by revert c; decide
  have hvc : lastRound c (kARecv c) = 0 := by revert c; decide
  have hl : lastRound c kLoc = 2 := by revert c; decide
  rw [cells_eq, eight_slots (fun j => atPos ER (kcell (c, kSend j)) (lastRound c (kSend j)) ∅ 0),
    eight_slots (fun j => atPos ER (kcell (c, kASend j)) (lastRound c (kASend j)) ∅ 0),
    eight_peers c (fun j => atPos ER (kcell (c, kARecv j)) (lastRound c (kARecv j)) ∅ 0)]
  simp only [kcell_bar, kcell_send, kcell_recv, kcell_asend, kcell_arecv, kcell_loc, hb, hs, hs7, ha, ha7, hr, hv, hvc, hl]
  congr 3
  refine bigSep_congr fun k _ => ?_
  unfold recvPos
  by_cases h : k = c
  · rw [if_pos h, if_pos h]
  · rw [if_neg h, if_neg h]

/-- The whole table of maxima loaded. -/
theorem wp_load_tab (c : Dev nD) {α : Type} {Q : α → sProp 𝕄} {k : Vec F S8x128 .f32 → Prog (TpuEff nD τ sig (Elt F) Λ₀ .tc) α}
    (f : (cc0_scratch2 : Ref sig .tc).ty.Contents (Elt F)) {inb} {hl : mM.view.LoadsAt (Rect.unit (s := S8x128) ![0, 0] S8x128.size inb).toLoadRect} :
    ((c : Thread nD τ).loc cc0_scratch2 ↦{fullShare} f)
      ⊢ iprop((((c : Thread nD τ).loc cc0_scratch2 ↦{fullShare} f) -∗ wp frame (wpE (defs₀ (F := F)) 𝒱₀ (c : Thread nD τ) none) Set.univ (k f) Q)
      -∗ wp frame (wpE (defs₀ (F := F)) 𝒱₀ (c : Thread nD τ) none) Set.univ
        (.op (.load mM (Rect.unit (s := S8x128) ![0, 0] S8x128.size inb).toLoadRect hl) k) Q) := by
  have h := wp_load_full (F := F) c (Q := Q) (k := k) mM f hz2 (inb := inb) (hl := hl)
  rw [show (mM : Memref sig .tc .vmem S8x128 .f32).view.set = Finset.univ from View.set_whole _] at h
  exact h

section Seg5
variable (K : Dev nD × Fin 34 → ℕ)
variable (t : Fin cfg0.N) (a3 : Memref sig .tc .vmem S512x2048 .f32) (h3 : a3.IsWhole)

set_option maxHeartbeats 8000000 in
/-- The last point: the rows of maxima exchanged, every wait, the scaling, the copy of the result, and the cells closed. -/
theorem seg5 (c : Dev nD) (k0_h5 : k0_cond5 (grid0.coords t) = 1#1) (v2 : BitVec 32) {Q : PUnit → sProp 𝕄}
    {hx1 : (aM.access (Rect.unit (s := S512x8192) ![0, 0] S512x8192.size inb_S512x8192_S512x8192_0_0)).Stores Finset.univ} {hm1}
    {hl1 : aM.view.LoadsAt (Rect.unit (s := S512x8192) ![0, 0] S512x8192.size inb_S512x8192_S512x8192_0_0).toLoadRect}
    {hw1 hw3 : aM.view.WordExact} {hw2 hw4 : oM.view.WordExact} {hty : DmaTarget.Typed (nD := nD) (p := Proc.tc) .vmem (.dma cc0_scratch7.sem) (.here oM)} :
    iprop(recs m K ∗ (∃ W, owes (c : Thread nD τ) (owA c 1) W) ∗ midR m c 32)
      ⊢ iprop((((∃ W', owes (c : Thread nD τ) 0 W') ∗ endR m c) -∗ Q ⟨⟩)
          -∗ wp frame (wpE (defs₀ (F := F)) 𝒱₀ (c : Thread nD τ) none) Set.univ
    (do
      let __x ← k0_part5 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h5
      k0_part6 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h5 __x.fst __x.snd
      k0_part7 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h5
      k0_part8 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h5
      k0_part9 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h5
      k0_part10 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c k0_h5
      let __y ← k0_part11 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c k0_h5
      Prog.op (.load aM (Rect.unit (s := S512x8192) ![0, 0] S512x8192.size inb_S512x8192_S512x8192_0_0).toLoadRect hl1) fun _ =>
      Prog.op (.store aM (Rect.unit (s := S512x8192) ![0, 0] S512x8192.size inb_S512x8192_S512x8192_0_0) (k0_pay4 __y.fst __y.snd.fst __y.snd.snd) Finset.univ hx1 hm1) fun _ =>
      Prog.op (.enqueueDma aM (.here oM) (.dma cc0_scratch7.sem) hw1 hw2 hty) fun _ =>
      Prog.op (.waitDma2 cc0_scratch7.sem aM oM hw3 hw4) fun _ => Prog.ret ⟨⟩) Q) := by
  simp only [k0_part5_eq_skeleton, k0_part6_eq_skeleton, k0_part7_eq_skeleton, k0_part8_eq_skeleton, k0_part9_eq_skeleton, k0_part10_eq_skeleton, k0_part11_eq_skeleton]
  unfold k0_part5_skel k0_part6_skel k0_part7_skel k0_part8_skel k0_part9_skel k0_part10_skel k0_part11_skel
  simp only [Prog.lift, Prog.bind_op, Prog.bind_ret, Prog.pure_eq_ret]
  unfold midR rest sent lentRows maxKit maxWait idle seven
  rw [recv_end]
  iintro ⟨#HR, ⟨%W, HO⟩, Hx, Ho, ⟨%fa, %hfa, Ha⟩, ⟨Hc, HrP⟩, HbP, ⟨⟨S0, P0⟩, ⟨S1, P1⟩, ⟨S2, P2⟩, ⟨S3, P3⟩, ⟨S4, P4⟩, ⟨S5, P5⟩, ⟨S6, P6⟩⟩, ⟨B0, B1, B2, B3, B4, B5, B6⟩, ⟨⟨T0, U0, A0⟩, ⟨T1, U1, A1⟩, ⟨T2, U2, A2⟩, ⟨T3, U3, A3⟩, ⟨T4, U4, A4⟩, ⟨T5, U5, A5⟩, ⟨T6, U6, A6⟩⟩, ⟨⟨C0, V0⟩, ⟨C1, V1⟩, ⟨C2, V2⟩, ⟨C3, V3⟩, ⟨C4, V4⟩, ⟨C5, V5⟩, ⟨C6, V6⟩⟩, ⟨Hi1, Hi2, Hi3⟩, ⟨%fm, Hm⟩, HlP, HlR, HlT⟩ Hk
  rw [acc_final m c fa hfa]
  iapply (wp_load_acc c (accF m c)) $$ Ha; iintro Ha
  iapply (wp_load_row c fm (k0_off9_eq c)) $$ Hm; iintro Hm
  iapply (wp_store_row m c fm (k0_off9_eq c)) $$ Hm; iintro Hm
  unfold mPts
  ihave Hm := (Transfers.pointsTo_toks_split fullShare 8) $$ Hm
  icases Hm with ⟨Hmd, Hms⟩
  ihave Hms := (Entails.of_eq (eight_eq _)) $$ Hms
  icases Hms with ⟨M0, M1, M2, M3, M4, M5, M6, M7⟩
  iapply (wp_send_m m K c _ 0 1 rfl (by decide) (dev_eq_peer _ (k0_dev15_eq c)) (m_blk _ _ (k0_off11_eq c) _) (m_blk _ _ (k0_off11_eq c) _)
      (asend_sem 0 _ rfl _) (arecv_sem c _ (k0_off10_eq c) _) _) $$ [HO M0 B0 T0 U0]
  · isplitr; · iexact HR
    isplitl [M0]; · unfold mPts; iexact M0
    isplitl [B0]; · iexact B0
    isplitl [HO]; · iexact HO
    isplitl [T0]; · iexact T0
    iexact U0
  iintro ⟨D0, HO⟩
  iapply (wp_send_m m K c _ 1 2 rfl (by decide) (dev_eq_peer _ (k0_dev16_eq c)) (m_blk _ _ (k0_off11_eq c) _) (m_blk _ _ (k0_off11_eq c) _)
      (asend_sem 1 _ rfl _) (arecv_sem c _ (k0_off10_eq c) _) _) $$ [HO M1 B1 T1 U1]
  · isplitr; · iexact HR
    isplitl [M1]; · unfold mPts; iexact M1
    isplitl [B1]; · iexact B1
    isplitl [HO]; · iexact HO
    isplitl [T1]; · iexact T1
    iexact U1
  iintro ⟨D1, HO⟩
  iapply (wp_send_m m K c _ 2 3 rfl (by decide) (dev_eq_peer _ (k0_dev17_eq c)) (m_blk _ _ (k0_off11_eq c) _) (m_blk _ _ (k0_off11_eq c) _)
      (asend_sem 2 _ rfl _) (arecv_sem c _ (k0_off10_eq c) _) _) $$ [HO M2 B2 T2 U2]
  · isplitr; · iexact HR
    isplitl [M2]; · unfold mPts; iexact M2
    isplitl [B2]; · iexact B2
    isplitl [HO]; · iexact HO
    isplitl [T2]; · iexact T2
    iexact U2
  iintro ⟨D2, HO⟩
  iapply (wp_send_m m K c _ 3 4 rfl (by decide) (dev_eq_peer _ (k0_dev18_eq c)) (m_blk _ _ (k0_off11_eq c) _) (m_blk _ _ (k0_off11_eq c) _)
      (asend_sem 3 _ rfl _) (arecv_sem c _ (k0_off10_eq c) _) _) $$ [HO M3 B3 T3 U3]
  · isplitr; · iexact HR
    isplitl [M3]; · unfold mPts; iexact M3
    isplitl [B3]; · iexact B3
    isplitl [HO]; · iexact HO
    isplitl [T3]; · iexact T3
    iexact U3
  iintro ⟨D3, HO⟩
  iapply (wp_send_m m K c _ 4 5 rfl (by decide) (dev_eq_peer _ (k0_dev19_eq c)) (m_blk _ _ (k0_off11_eq c) _) (m_blk _ _ (k0_off11_eq c) _)
      (asend_sem 4 _ rfl _) (arecv_sem c _ (k0_off10_eq c) _) _) $$ [HO M4 B4 T4 U4]
  · isplitr; · iexact HR
    isplitl [M4]; · unfold mPts; iexact M4
    isplitl [B4]; · iexact B4
    isplitl [HO]; · iexact HO
    isplitl [T4]; · iexact T4
    iexact U4
  iintro ⟨D4, HO⟩
  iapply (wp_send_m m K c _ 5 6 rfl (by decide) (dev_eq_peer _ (k0_dev20_eq c)) (m_blk _ _ (k0_off11_eq c) _) (m_blk _ _ (k0_off11_eq c) _)
      (asend_sem 5 _ rfl _) (arecv_sem c _ (k0_off10_eq c) _) _) $$ [HO M5 B5 T5 U5]
  · isplitr; · iexact HR
    isplitl [M5]; · unfold mPts; iexact M5
    isplitl [B5]; · iexact B5
    isplitl [HO]; · iexact HO
    isplitl [T5]; · iexact T5
    iexact U5
  iintro ⟨D5, HO⟩
  iapply (wp_send_m m K c _ 6 7 rfl (by decide) (dev_eq_peer _ (k0_dev21_eq c)) (m_blk _ _ (k0_off11_eq c) _) (m_blk _ _ (k0_off11_eq c) _)
      (asend_sem 6 _ rfl _) (arecv_sem c _ (k0_off10_eq c) _) _) $$ [HO M6 B6 T6 U6]
  · isplitr; · iexact HR
    isplitl [M6]; · unfold mPts; iexact M6
    isplitl [B6]; · iexact B6
    isplitl [HO]; · iexact HO
    isplitl [T6]; · iexact T6
    iexact U6
  iintro ⟨D6, HO⟩
  rw [show owA c (7 + 1) = 0 from rfl]
  iapply (wp_wait_one m K c (kARecv (pr c 0)) (arecvS (pr c 0)) (kcell_arecv c (pr c 0)) 0 (duties_arecv m c (pr c 0) (peer_ne c 1 (by decide) (by decide)).symm) N2
      (amount_arecv m c (pr c 0) 0) (arecv_sem (pr c 0) _ (k0_off12_eq c 0) _) mN2 _ _ (mw_zero c _)) $$ [HO C0 V0]
  · isplitr; · iexact HR
    isplitl [C0]; · iexact C0
    isplitl [HO]; · iexact HO
    iexact V0
  iintro ⟨HO, V0, -, R0⟩
  ihave R0 := (Entails.of_eq (payload_arecv m c (pr c 0) 0)) $$ R0
  iapply (wp_wait_one m K c (kARecv (pr c 1)) (arecvS (pr c 1)) (kcell_arecv c (pr c 1)) 0 (duties_arecv m c (pr c 1) (peer_ne c 2 (by decide) (by decide)).symm) N2
      (amount_arecv m c (pr c 1) 0) (arecv_sem (pr c 1) _ (k0_off12_eq c 1) _) mN2 _ _ (mw_zero c _)) $$ [HO C1 V1]
  · isplitr; · iexact HR
    isplitl [C1]; · iexact C1
    isplitl [HO]; · iexact HO
    iexact V1
  iintro ⟨HO, V1, -, R1⟩
  ihave R1 := (Entails.of_eq (payload_arecv m c (pr c 1) 0)) $$ R1
  iapply (wp_wait_one m K c (kARecv (pr c 2)) (arecvS (pr c 2)) (kcell_arecv c (pr c 2)) 0 (duties_arecv m c (pr c 2) (peer_ne c 3 (by decide) (by decide)).symm) N2
      (amount_arecv m c (pr c 2) 0) (arecv_sem (pr c 2) _ (k0_off12_eq c 2) _) mN2 _ _ (mw_zero c _)) $$ [HO C2 V2]
  · isplitr; · iexact HR
    isplitl [C2]; · iexact C2
    isplitl [HO]; · iexact HO
    iexact V2
  iintro ⟨HO, V2, -, R2⟩
  ihave R2 := (Entails.of_eq (payload_arecv m c (pr c 2) 0)) $$ R2
  iapply (wp_wait_one m K c (kARecv (pr c 3)) (arecvS (pr c 3)) (kcell_arecv c (pr c 3)) 0 (duties_arecv m c (pr c 3) (peer_ne c 4 (by decide) (by decide)).symm) N2
      (amount_arecv m c (pr c 3) 0) (arecv_sem (pr c 3) _ (k0_off12_eq c 3) _) mN2 _ _ (mw_zero c _)) $$ [HO C3 V3]
  · isplitr; · iexact HR
    isplitl [C3]; · iexact C3
    isplitl [HO]; · iexact HO
    iexact V3
  iintro ⟨HO, V3, -, R3⟩
  ihave R3 := (Entails.of_eq (payload_arecv m c (pr c 3) 0)) $$ R3
  iapply (wp_wait_one m K c (kARecv (pr c 4)) (arecvS (pr c 4)) (kcell_arecv c (pr c 4)) 0 (duties_arecv m c (pr c 4) (peer_ne c 5 (by decide) (by decide)).symm) N2
      (amount_arecv m c (pr c 4) 0) (arecv_sem (pr c 4) _ (k0_off12_eq c 4) _) mN2 _ _ (mw_zero c _)) $$ [HO C4 V4]
  · isplitr; · iexact HR
    isplitl [C4]; · iexact C4
    isplitl [HO]; · iexact HO
    iexact V4
  iintro ⟨HO, V4, -, R4⟩
  ihave R4 := (Entails.of_eq (payload_arecv m c (pr c 4) 0)) $$ R4
  iapply (wp_wait_one m K c (kARecv (pr c 5)) (arecvS (pr c 5)) (kcell_arecv c (pr c 5)) 0 (duties_arecv m c (pr c 5) (peer_ne c 6 (by decide) (by decide)).symm) N2
      (amount_arecv m c (pr c 5) 0) (arecv_sem (pr c 5) _ (k0_off12_eq c 5) _) mN2 _ _ (mw_zero c _)) $$ [HO C5 V5]
  · isplitr; · iexact HR
    isplitl [C5]; · iexact C5
    isplitl [HO]; · iexact HO
    iexact V5
  iintro ⟨HO, V5, -, R5⟩
  ihave R5 := (Entails.of_eq (payload_arecv m c (pr c 5) 0)) $$ R5
  iapply (wp_wait_one m K c (kARecv (pr c 6)) (arecvS (pr c 6)) (kcell_arecv c (pr c 6)) 0 (duties_arecv m c (pr c 6) (peer_ne c 7 (by decide) (by decide)).symm) N2
      (amount_arecv m c (pr c 6) 0) (arecv_sem (pr c 6) _ (k0_off12_eq c 6) _) mN2 _ _ (mw_zero c _)) $$ [HO C6 V6]
  · isplitr; · iexact HR
    isplitl [C6]; · iexact C6
    isplitl [HO]; · iexact HO
    iexact V6
  iintro ⟨HO, V6, -, R6⟩
  ihave R6 := (Entails.of_eq (payload_arecv m c (pr c 6) 0)) $$ R6
  iapply (wp_wait_one m K c (kASend 0) (asendS 0) (kcell_asend c 0) 0 (duties_asend m c 0 (by decide)) N2 (amount_asend m c 0 0)
      (asend_sem 0 _ rfl _) mN2 _ _ (mw_zero c _)) $$ [HO D0 A0]
  · isplitr; · iexact HR
    isplitl [D0]; · iexact D0
    isplitl [HO]; · iexact HO
    iexact A0
  iintro ⟨HO, A0, -, M0⟩
  ihave M0 := (Entails.of_eq (payload_asend m c 0 0)) $$ M0
  iapply (wp_wait_one m K c (kSend 0) (sendS 0) (kcell_send c 0) 0 (duties_send m c 0 (by decide)) N1 (amount_send m c 0 0)
      (send_sem 0 _ rfl _) xN1 _ _ (mw_zero c _)) $$ [HO S0 P0]
  · isplitr; · iexact HR
    isplitl [S0]; · iexact S0
    isplitl [HO]; · iexact HO
    iexact P0
  iintro ⟨HO, P0, -, X0⟩
  ihave X0 := (Entails.of_eq (payload_send m c 0 0)) $$ X0
  iapply (wp_wait_one m K c (kASend 1) (asendS 1) (kcell_asend c 1) 0 (duties_asend m c 1 (by decide)) N2 (amount_asend m c 1 0)
      (asend_sem 1 _ rfl _) mN2 _ _ (mw_zero c _)) $$ [HO D1 A1]
  · isplitr; · iexact HR
    isplitl [D1]; · iexact D1
    isplitl [HO]; · iexact HO
    iexact A1
  iintro ⟨HO, A1, -, M1⟩
  ihave M1 := (Entails.of_eq (payload_asend m c 1 0)) $$ M1
  iapply (wp_wait_one m K c (kSend 1) (sendS 1) (kcell_send c 1) 0 (duties_send m c 1 (by decide)) N1 (amount_send m c 1 0)
      (send_sem 1 _ rfl _) xN1 _ _ (mw_zero c _)) $$ [HO S1 P1]
  · isplitr; · iexact HR
    isplitl [S1]; · iexact S1
    isplitl [HO]; · iexact HO
    iexact P1
  iintro ⟨HO, P1, -, X1⟩
  ihave X1 := (Entails.of_eq (payload_send m c 1 0)) $$ X1
  iapply (wp_wait_one m K c (kASend 2) (asendS 2) (kcell_asend c 2) 0 (duties_asend m c 2 (by decide)) N2 (amount_asend m c 2 0)
      (asend_sem 2 _ rfl _) mN2 _ _ (mw_zero c _)) $$ [HO D2 A2]
  · isplitr; · iexact HR
    isplitl [D2]; · iexact D2
    isplitl [HO]; · iexact HO
    iexact A2
  iintro ⟨HO, A2, -, M2⟩
  ihave M2 := (Entails.of_eq (payload_asend m c 2 0)) $$ M2
  iapply (wp_wait_one m K c (kSend 2) (sendS 2) (kcell_send c 2) 0 (duties_send m c 2 (by decide)) N1 (amount_send m c 2 0)
      (send_sem 2 _ rfl _) xN1 _ _ (mw_zero c _)) $$ [HO S2 P2]
  · isplitr; · iexact HR
    isplitl [S2]; · iexact S2
    isplitl [HO]; · iexact HO
    iexact P2
  iintro ⟨HO, P2, -, X2⟩
  ihave X2 := (Entails.of_eq (payload_send m c 2 0)) $$ X2
  iapply (wp_wait_one m K c (kASend 3) (asendS 3) (kcell_asend c 3) 0 (duties_asend m c 3 (by decide)) N2 (amount_asend m c 3 0)
      (asend_sem 3 _ rfl _) mN2 _ _ (mw_zero c _)) $$ [HO D3 A3]
  · isplitr; · iexact HR
    isplitl [D3]; · iexact D3
    isplitl [HO]; · iexact HO
    iexact A3
  iintro ⟨HO, A3, -, M3⟩
  ihave M3 := (Entails.of_eq (payload_asend m c 3 0)) $$ M3
  iapply (wp_wait_one m K c (kSend 3) (sendS 3) (kcell_send c 3) 0 (duties_send m c 3 (by decide)) N1 (amount_send m c 3 0)
      (send_sem 3 _ rfl _) xN1 _ _ (mw_zero c _)) $$ [HO S3 P3]
  · isplitr; · iexact HR
    isplitl [S3]; · iexact S3
    isplitl [HO]; · iexact HO
    iexact P3
  iintro ⟨HO, P3, -, X3⟩
  ihave X3 := (Entails.of_eq (payload_send m c 3 0)) $$ X3
  iapply (wp_wait_one m K c (kASend 4) (asendS 4) (kcell_asend c 4) 0 (duties_asend m c 4 (by decide)) N2 (amount_asend m c 4 0)
      (asend_sem 4 _ rfl _) mN2 _ _ (mw_zero c _)) $$ [HO D4 A4]
  · isplitr; · iexact HR
    isplitl [D4]; · iexact D4
    isplitl [HO]; · iexact HO
    iexact A4
  iintro ⟨HO, A4, -, M4⟩
  ihave M4 := (Entails.of_eq (payload_asend m c 4 0)) $$ M4
  iapply (wp_wait_one m K c (kSend 4) (sendS 4) (kcell_send c 4) 0 (duties_send m c 4 (by decide)) N1 (amount_send m c 4 0)
      (send_sem 4 _ rfl _) xN1 _ _ (mw_zero c _)) $$ [HO S4 P4]
  · isplitr; · iexact HR
    isplitl [S4]; · iexact S4
    isplitl [HO]; · iexact HO
    iexact P4
  iintro ⟨HO, P4, -, X4⟩
  ihave X4 := (Entails.of_eq (payload_send m c 4 0)) $$ X4
  iapply (wp_wait_one m K c (kASend 5) (asendS 5) (kcell_asend c 5) 0 (duties_asend m c 5 (by decide)) N2 (amount_asend m c 5 0)
      (asend_sem 5 _ rfl _) mN2 _ _ (mw_zero c _)) $$ [HO D5 A5]
  · isplitr; · iexact HR
    isplitl [D5]; · iexact D5
    isplitl [HO]; · iexact HO
    iexact A5
  iintro ⟨HO, A5, -, M5⟩
  ihave M5 := (Entails.of_eq (payload_asend m c 5 0)) $$ M5
  iapply (wp_wait_one m K c (kSend 5) (sendS 5) (kcell_send c 5) 0 (duties_send m c 5 (by decide)) N1 (amount_send m c 5 0)
      (send_sem 5 _ rfl _) xN1 _ _ (mw_zero c _)) $$ [HO S5 P5]
  · isplitr; · iexact HR
    isplitl [S5]; · iexact S5
    isplitl [HO]; · iexact HO
    iexact P5
  iintro ⟨HO, P5, -, X5⟩
  ihave X5 := (Entails.of_eq (payload_send m c 5 0)) $$ X5
  iapply (wp_wait_one m K c (kASend 6) (asendS 6) (kcell_asend c 6) 0 (duties_asend m c 6 (by decide)) N2 (amount_asend m c 6 0)
      (asend_sem 6 _ rfl _) mN2 _ _ (mw_zero c _)) $$ [HO D6 A6]
  · isplitr; · iexact HR
    isplitl [D6]; · iexact D6
    isplitl [HO]; · iexact HO
    iexact A6
  iintro ⟨HO, A6, -, M6⟩
  ihave M6 := (Entails.of_eq (payload_asend m c 6 0)) $$ M6
  iapply (wp_wait_one m K c (kSend 6) (sendS 6) (kcell_send c 6) 0 (duties_send m c 6 (by decide)) N1 (amount_send m c 6 0)
      (send_sem 6 _ rfl _) xN1 _ _ (mw_zero c _)) $$ [HO S6 P6]
  · isplitr; · iexact HR
    isplitl [S6]; · iexact S6
    isplitl [HO]; · iexact HO
    iexact P6
  iintro ⟨HO, P6, -, X6⟩
  ihave X6 := (Entails.of_eq (payload_send m c 6 0)) $$ X6
  -- the table of maxima, whole again
  ihave Hm : mPts c c fullShare (amaxF m) $$ [Hmd M0 M1 M2 M3 M4 M5 M6 M7]
  · unfold mPts
    iapply (Transfers.pointsTo_toks_join fullShare 8)
    isplitl [Hmd]; · iexact Hmd
    iapply (Entails.of_eq (eight_eq _).symm)
    isplitl [M0]; · iexact M0
    isplitl [M1]; · iexact M1
    isplitl [M2]; · iexact M2
    isplitl [M3]; · iexact M3
    isplitl [M4]; · iexact M4
    isplitl [M5]; · iexact M5
    isplitl [M6]; · iexact M6
    iexact M7
  ihave HM : ((c : Thread nD τ).loc cc0_scratch2 ↦{fullShare} amaxF m) $$ [Hm R0 R1 R2 R3 R4 R5 R6]
  · iapply (Entails.of_eq (m_blocks c (amaxF m)).symm)
    iapply (Entails.of_eq (eight_peers c _).symm)
    isplitl [Hm]; · iexact Hm
    unfold seven
    isplitl [R0]; · iexact R0
    isplitl [R1]; · iexact R1
    isplitl [R2]; · iexact R2
    isplitl [R3]; · iexact R3
    isplitl [R4]; · iexact R4
    isplitl [R5]; · iexact R5
    iexact R6
  ihave HX : ((c : Thread nD τ).loc main_arg0 ↦{fullShare} xBuf m c) $$ [Hx X0 X1 X2 X3 X4 X5 X6]
  · iapply (Entails.of_eq (x_whole m c).symm)
    iapply (Entails.of_eq (eight_peers c _).symm)
    isplitl [Hx]; · iexact Hx
    unfold seven
    isplitl [X0]; · iexact X0
    isplitl [X1]; · iexact X1
    isplitl [X2]; · iexact X2
    isplitl [X3]; · iexact X3
    isplitl [X4]; · iexact X4
    isplitl [X5]; · iexact X5
    iexact X6
  iapply (wp_load_tab c (amaxF m)) $$ HM; iintro HM
  iapply (wp_load_acc c (accF m c)) $$ Ha; iintro Ha
  iapply (wp_load_acc c (accF m c)) $$ Ha; iintro Ha
  iapply (wp_store_acc c (accF m c)) $$ Ha; iintro Ha
  iapply (wp_local_out m K c loc_sem) $$ [Ha Ho HlT HlR]
  · isplitr; · iexact HR
    isplitl [Ha]; · unfold outF; iexact Ha
    isplitl [Ho]; · iexact Ho
    isplitl [HlT]; · iexact HlT
    iexact HlR
  iintro HlC
  iapply (wp_wait_one m K c kLoc locS (kcell_loc c) 1 (duties_loc m c 1 (by decide)) N3 (amount_loc1 m c 0) loc_sem rfl _ _ (mw_zero c _)) $$ [HO HlC HlP]
  · isplitr; · iexact HR
    isplitl [HlC]; · iexact HlC
    isplitl [HO]; · iexact HO
    iexact HlP
  iintro ⟨HO, HlP, -, Hp⟩
  ihave Hp := (Entails.of_eq (payload_loc1 m c 0)) $$ Hp
  icases Hp with ⟨Ho, Ha⟩
  rw [wp_ret]
  imod (close_all m K c) $$ [HbP P0 P1 P2 P3 P4 P5 P6 A0 A1 A2 A3 A4 A5 A6 V0 V1 V2 V3 V4 V5 V6 HrP Hi1 Hi2 Hi3 HlP] with Hz
  · isplitr; · iexact HR
    rw [last_eq]; unfold seven
    isplitl [HbP]; · iexact HbP
    isplitl [P0 P1 P2 P3 P4 P5 P6 Hi1]
    · isplitl [P0 P1 P2 P3 P4 P5 P6]
      · isplitl [P0]; · iexact P0
        isplitl [P1]; · iexact P1
        isplitl [P2]; · iexact P2
        isplitl [P3]; · iexact P3
        isplitl [P4]; · iexact P4
        isplitl [P5]; · iexact P5
        iexact P6
      iexact Hi1
    isplitl [HrP]; · iexact HrP
    isplitl [A0 A1 A2 A3 A4 A5 A6 Hi2]
    · isplitl [A0 A1 A2 A3 A4 A5 A6]
      · isplitl [A0]; · iexact A0
        isplitl [A1]; · iexact A1
        isplitl [A2]; · iexact A2
        isplitl [A3]; · iexact A3
        isplitl [A4]; · iexact A4
        isplitl [A5]; · iexact A5
        iexact A6
      iexact Hi2
    isplitl [V0 V1 V2 V3 V4 V5 V6 Hi3]
    · isplitl [Hi3]; · iexact Hi3
      isplitl [V0]; · iexact V0
      isplitl [V1]; · iexact V1
      isplitl [V2]; · iexact V2
      isplitl [V3]; · iexact V3
      isplitl [V4]; · iexact V4
      isplitl [V5]; · iexact V5
      iexact V6
    iexact HlP
  imodintro
  iapply Hk
  isplitl [HO]; · iexists _; iexact HO
  unfold endR
  isplitl [HX]; · iexact HX
  isplitl [Ho]; · iexact Ho
  isplitl [Ha]; · iexact Ha
  isplitl [Hc]; · iexact Hc
  isplitl [HM]; · iexact HM
  iexact Hz

end Seg5

end Cert.KernelIdeal.A2A

end
-- ==== Proof.Body5.lean ====
/- The pipeline's certificate on one device, and its body obligation: the pieces of the body put together. -/
module

public import proofs.«01_k».proof.Proof.Body4

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a core holds before point `n`: the start, the state between two points, the end. -/
def ΦAt (c : Dev nD) (n : ℕ) : sProp 𝕄 :=
  if n = 0 then iprop(∃ K, recs m K ∗ startR m c)
  else if n = 32 then endR m c
  else iprop(∃ K, recs m K ∗ midR m c n)

/-- What a core owes before point `n`. -/
def owedAt (c : Dev nD) (n : ℕ) : CellTallies nD τ sig Unit :=
  if n = 0 then O₀ c else if n = 32 then 0 else owA c 1

/-- The pipeline's certificate on device `c`: the weight window is read only, the rest is `ΦAt`. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
  Φ t := ΦAt m c t.val
  q _ := fullShare
  owed t := owedAt c t.val

/-- The window's staging buffer holds its block of the weights when the body runs. -/
theorem before_eq (c : Dev nD) (t : Fin cfg0.N) (d) : (dats m 0 c).before 0 t d = wv m c t :=
  have hA : (dats m 0 c).A 0 = V m c (Pipeline.arrRef spec0 0) := rfl
  have hafter : ∀ t, (dats m 0 c).after 0 t = iblk m c 0 t := fun _ => rfl
  ((dats m 0 c).before_in_eq_fetched 0 rfl (fun _ => rfl) (fun _ _ _ => rfl) (fun t => by rw [hafter]; unfold Dat.blockOf iblk; rw [hA]; try rfl) t d).trans
    (by unfold Dat.fetched Dat.blockOf wv iblk; rw [hA]; try rfl)

section Obl
variable (K : Dev nD × Fin 34 → ℕ)

/-- The last conditional of a point. -/
theorem mid_end (c : Dev nD) (t : Fin cfg0.N) (h : t.val ≠ 31) :
    iprop(recs m K ∗ midR m c (t.val + 1)) ⊢ ΦAt m c (t.val + 1) := by
  have := t_lt t
  unfold ΦAt
  rw [if_neg (by omega), if_neg (by omega)]
  iintro H; iexists K; iexact H

theorem owed_mid (c : Dev nD) (n : ℕ) (h0 : n ≠ 0) (h : n ≠ 32) : owedAt c n = owA c 1 := by
  unfold owedAt; rw [if_neg h0, if_neg h]

end Obl

theorem acc_zero (c : Dev nD) (f) : AccOK m c 0 f := fun n h => absurd h (Nat.not_lt_zero _)

/-- The first conditional of a point: everything before the first weight block is used. -/
theorem seg1' (t : Fin cfg0.N) (a3 : Memref sig .tc .vmem S512x2048 .f32) (h3 : a3.IsWhole) (c : Dev nD) (v2 : BitVec 32)
    {Q : PUnit → sProp 𝕄} {kont : Prog (TpuEff nD τ sig (Elt F) Λ₀ .tc) PUnit}
    {sp sp' : Space} {s' : Shape} {e' : EltTy} {src : k0_cond1 (grid0.coords t) = 1#1 → Memref sig .tc sp' s' e'} {dst : k0_cond1 (grid0.coords t) = 1#1 → Memref sig .tc .vmem S512x512 .f32} (hdst : ∀ h, dst h = cB c)
    {hw1 : ∀ h, (src h).view.WordExact} {hw2 : ∀ h, (dst h).view.WordExact} :
    iprop(ΦAt m c t.val ∗ (∃ W, owes (c : Thread nD τ) (owedAt c t.val) W))
      ⊢ iprop(((∃ K, recs m K ∗ (∃ W', owes (c : Thread nD τ) (owA c 1) W') ∗ midR m c t.val)
            -∗ wp frame (wpE (defs₀ (F := F)) 𝒱₀ (c : Thread nD τ) none) Set.univ kont Q)
          -∗ wp frame (wpE (defs₀ (F := F)) 𝒱₀ (c : Thread nD τ) none) Set.univ
    (if k0_h1 : k0_cond1 (grid0.coords t) = 1#1 then (do
      let v31 : Sems sig S_ ← k0_part1 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1
      let v84 : BitVec 32 ← k0_part2 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1 v31
      k0_part3 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1 v84
      k0_part4 (grid0.coords t) xM (Memref.isWhole_whole _) a3 h3 oM (Memref.isWhole_whole _) cM (Memref.isWhole_whole _) aM (Memref.isWhole_whole _) mM (Memref.isWhole_whole _) cc0_scratch3 cc0_scratch4 cc0_scratch5 cc0_scratch6 cc0_scratch7 c v2 k0_h1
      Prog.op (.waitDma2 cc0_scratch7.sem (src k0_h1) (dst k0_h1) (hw1 k0_h1) (hw2 k0_h1)) fun _ => kont)
    else kont) Q) := by
  have ht := t_lt t
  by_cases h : k0_cond1 (grid0.coords t) = 1#1
  · rw [dif_pos h]
    have h0 := (cond1_iff t).mp h
    rw [h0]
    unfold ΦAt owedAt
    rw [if_pos rfl, if_pos rfl]
    iintro ⟨⟨%K, #HR, HS⟩, ⟨%W, HO⟩⟩ Hk
    iapply (seg1 m K t a3 h3 c h v2 W (hdst h) (sp := sp)) $$ [HO HS]
    · isplitr; · iexact HR
      isplitl [HO]; · iexact HO
      iexact HS
    iintro ⟨HO, HM⟩
    iapply Hk
    iexists K
    isplitr; · iexact HR
    isplitl [HO]; · iexact HO
    iexact HM
  · rw [dif_neg h]
    have h0 : t.val ≠ 0 := fun e => h ((cond1_iff t).mpr e)
    unfold ΦAt
    rw [owed_mid c t.val h0 (by omega), if_neg h0, if_neg (by omega)]
    iintro ⟨⟨%K, #HR, HS⟩, HO⟩ Hk
    iapply Hk
    iexists K
    isplitr; · iexact HR
    isplitl [HO]; · iexact HO
    iexact HS

set_option maxHeartbeats 4000000 in
/-- One point of the grid. -/
theorem body_point (c : Dev nD) (t : Fin cfg0.N) :
    iprop(ΦAt m c t.val ∗ (dats m 0 c).owesAt () t.castSucc ∗ (∃ d, owns (c : Thread nD τ) (st0_0 t) fullShare ((dats m 0 c).before 0 t d)))
    ⊢ wp frame (wpE (defs₀ (F := F)) 𝒱₀ c none) Set.univ (cc0_body_skel (grid0.coords t) xM (Memref.isWhole_whole _) (st0_0 t) (hstage0_0 ((cfg0.slots t 0).cast nbuf0_0)) oM (Memref.isWhole_whole _) cM (Memref.isWhole_whole _) aM (Memref.isWhole_whole _) mM (Memref.isWhole_whole _) cc0_scratch3 cc0_scratch4 cc0_scratch5 cc0_scratch6 cc0_scratch7)
      (fun _ => iprop(ΦAt m c (t.val + 1) ∗ (dats m 0 c).owesAt () t.succ ∗ owns (c : Thread nD τ) (st0_0 t) fullShare (wv m c t)))
  := by
  have ht := t_lt t
  unfold cc0_body_skel
  simp only [semSignalWord, semWaitWord, Prog.lift, Prog.bind_op, Prog.bind_ret, Prog.pure_eq_ret, wp_deviceId]
  unfold owns
  simp only [before_eq]
  iintro ⟨HΦ, ⟨%W, %hW, HO⟩, ⟨%d, %f3, %hf3, Hw⟩⟩
  iapply (seg1' m t (st0_0 t) (hstage0_0 ((cfg0.slots t 0).cast nbuf0_0)) c _ (sp := .vmem) (fun h => c_blk c (k0_off2 c) (k0_off2_eq c) _)) $$ [HΦ HO]
  · isplitl [HΦ]; · iexact HΦ
    iexists W; iexact HO
  iintro ⟨%K, #HR, HO, HM⟩
  unfold midR
  icases HM with ⟨Hx, Ho, Ha, Hr, Hrest⟩
  iapply (seg2 m K t c) $$ [HO Hr]
  · isplitr; · iexact HR
    isplitl [HO]; · iexact HO
    iexact Hr
  iintro ⟨HO, Hr⟩
  iapply (seg3 m t c (st0_0 t) f3 hf3) $$ [Hr Hw Ha]
  · isplitl [Hr]; · iexact Hr
    isplitl [Hw]; · iexact Hw
    iexact Ha
  iintro ⟨Hr, Hw, Ha⟩
  ihave HM := (show iprop(xPts m c c ∗ (∃ f, oPts c f) ∗ (∃ f, ⌜AccOK m c (t.val + 1) f⌝ ∗ aPts c f)
    ∗ (bigSep Finset.univ fun k => recvSt m c (t.val + 1) k) ∗ rest c) ⊢ midR m c (t.val + 1) from .rfl) $$ [Hx Ho Ha Hr Hrest]
  · isplitl [Hx]; · iexact Hx
    isplitl [Ho]; · iexact Ho
    isplitl [Ha]; · iexact Ha
    isplitl [Hr]; · iexact Hr
    iexact Hrest
  by_cases h5 : k0_cond5 (grid0.coords t) = 1#1
  · rw [dif_pos h5]
    have e := (cond5_iff t).mp h5
    have hsucc : t.val + 1 = 32 := by omega
    rw [hsucc]
    iapply (seg5 m K t (st0_0 t) (hstage0_0 ((cfg0.slots t 0).cast nbuf0_0)) c h5 _) $$ [HO HM]
    · isplitr; · iexact HR
      isplitl [HO]; · iexact HO
      iexact HM
    iintro ⟨⟨%W', HO⟩, HE⟩
    isplitl [HE]
    · unfold ΦAt; rw [if_neg (by decide), if_pos rfl]; iexact HE
    isplitl [HO]
    · iexists W'
      isplitr
      · ipureintro; exact fun _ _ => Or.inl trivial
      iapply (Entails.of_eq (congrArg (fun O => owes (c : Thread nD τ) O W') (show 0 = owedAt c (t.val + 1) by
        rw [hsucc]; unfold owedAt; rw [if_neg (by decide), if_pos rfl])))
      iexact HO
    iexists f3
    isplitr; · ipureintro; exact hf3
    iexact Hw
  · rw [dif_neg h5]
    have e : t.val ≠ 31 := fun e => h5 ((cond5_iff t).mpr e)
    rw [wp_ret]; imodintro
    isplitl [HM]
    · iapply (mid_end m K c t e)
      isplitr; · iexact HR
      iexact HM
    icases HO with ⟨%W', HO⟩
    isplitl [HO]
    · iexists W'
      isplitr
      · ipureintro; exact fun _ _ => Or.inl trivial
      iapply (Entails.of_eq (congrArg (fun O => owes (c : Thread nD τ) O W') (owed_mid c (t.val + 1) (by omega) (by omega)).symm))
      iexact HO
    iexists f3
    isplitr; · ipureintro; exact hf3
    iexact Hw

set_option maxHeartbeats 4000000 in
/-- The body obligation: every point takes the state before it to the state after it. -/
theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 t) _
  unfold bodyAt0
  rw [cc0_body_eq_skeleton]
  exact body_point m c t

end Cert.KernelIdeal.A2A

end
-- ==== Proof.Launch1.lean ====
/- The launch: the cells' invariants allocated, the tokens dealt to the devices that pay with them. -/
module

public import proofs.«01_k».proof.Proof.Body5

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem csem_injective : Function.Injective csem := by decide +kernel

theorem kcell_injective : Function.Injective (kcell : Dev nD × Fin 34 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  rw [h2]

/-- The cells of the exchange: every device's thirty-four. -/
def ringCells : Finset (GSem nD τ sig) := Finset.univ.map ⟨kcell, kcell_injective⟩

/-- Which of its own cells a device's token `(i, k)` is for. -/
def tokSem (ik : Fin 6 × Fin 8) : Fin 34 :=
  if ik.1 = 0 then 0 else if ik.1 = 1 then kSend ik.2 else if ik.1 = 2 then kRecv ik.2
  else if ik.1 = 3 then kASend ik.2 else if ik.1 = 4 then kARecv ik.2 else kLoc
/-- The token's round: the copy semaphore has one duty a round. -/
def tokRound (ik : Fin 6 × Fin 8) : ℕ := if ik.1 = 5 then ik.2.val else 0
/-- The token's duty: the barrier cell has one for each device. -/
def tokDuty (ik : Fin 6 × Fin 8) : Dev nD := if ik.1 = 0 then ik.2 else 0

def tokOf (x : Dev nD × (Fin 6 × Fin 8)) : GSem nD τ sig × ℕ × Dev nD := (kcell (x.1, tokSem x.2), tokRound x.2, tokDuty x.2)

theorem tok_key : Function.Injective (fun ik : Fin 6 × Fin 8 => (tokSem ik, tokRound ik, tokDuty ik)) := by decide +kernel

theorem tokOf_injective : Function.Injective tokOf := by
  rintro ⟨c, j⟩ ⟨c', j'⟩ h
  have h0 := kcell_injective (congrArg Prod.fst h)
  have h1 : c = c' := congrArg Prod.fst h0
  have h2 : tokSem j = tokSem j' := congrArg Prod.snd h0
  have h3 : (tokRound j, tokDuty j) = (tokRound j', tokDuty j') := congrArg Prod.snd h
  rw [h1, tok_key (a₁ := j) (a₂ := j') (by show (tokSem j, tokRound j, tokDuty j) = (tokSem j', tokRound j', tokDuty j'); rw [h2, h3])]

def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun k : Dev nD => dutyTok ER (barCell c) 0 k) ∗ (bigSep Finset.univ fun k : Fin 8 => dutyTok ER (sendCell c k) 0 0)
    ∗ (bigSep Finset.univ fun k : Dev nD => dutyTok ER (recvCell c k) 0 0) ∗ (bigSep Finset.univ fun k : Fin 8 => dutyTok ER (asendCell c k) 0 0)
    ∗ (bigSep Finset.univ fun k : Dev nD => dutyTok ER (arecvCell c k) 0 0) ∗ (bigSep Finset.univ fun k : Fin 8 => dutyTok ER (locCell c) k.val 0))

omit [FloatOps F] in
theorem toks_eq (c : Dev nD) :
    (bigSep Finset.univ fun j : Fin 6 × Fin 8 => (dutyTok ER (tokOf (c, j)).1 (tokOf (c, j)).2.1 (tokOf (c, j)).2.2 : sProp 𝕄)) = toks c := by
  rw [bigSep_univ_prod, bigSep_univ_eq_bigSepL [0, 1, 2, 3, 4, 5] (by decide) (by decide)]
  unfold toks
  have e1 (k : Fin 8) : tokOf (c, (1, k)) = (sendCell c k, 0, 0) := by rw [← kcell_send]; rfl
  have e2 (k : Fin 8) : tokOf (c, (2, k)) = (recvCell c k, 0, 0) := by rw [← kcell_recv]; rfl
  have e3 (k : Fin 8) : tokOf (c, (3, k)) = (asendCell c k, 0, 0) := by rw [← kcell_asend]; rfl
  have e4 (k : Fin 8) : tokOf (c, (4, k)) = (arecvCell c k, 0, 0) := by rw [← kcell_arecv]; rfl
  have e5 (k : Fin 8) : tokOf (c, (5, k)) = (locCell c, k.val, 0) := by rw [← kcell_loc]; rfl
  simp only [bigSepL, e1, e2, e3, e4, e5]
  rfl

/-- What the launch element deals device `c`. -/
def G (c : Dev nD) : sProp 𝕄 :=
  iprop((bigSep Finset.univ fun k : Fin 34 => roundState ER (sched m) (kcell (c, k)) 0)
    ∗ (bigSep Finset.univ fun k : Fin 34 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 34 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The launch's one unscoped semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The own semaphores and the barrier's are the thirty-four cells. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Fin 34 => semVal (kcell (c, k)) 0 : sProp 𝕄) := by
  rw [unscopedSems0_eq, show ∀ P Q : sProp 𝕄, iprop(P ∗ Q) = iprop(Q ∗ P) from fun P Q => BI.equiv_iff.mp ⟨BI.sep_comm, BI.sep_comm⟩, bigSep_univ_eq_bigSepL (0 :: (List.finRange 33).map Fin.succ) (by decide) (by decide),
    Pipeline.ownSems0_eq_of_list c osem (List.finRange 33) (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Fin 34 => semVal (kcell (c, k)) 0) ∗ bigSep Finset.univ fun k : Fin 34 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The invariants and the first-round records of every cell. -/
def records (K : Dev nD × Fin 34 → ℕ) : sProp 𝕄 :=
  iprop((bigSep Finset.univ fun ck : Dev nD × Fin 34 => cellInv ER (sched m) (K ck) (kcell ck))
    ∗ bigSep Finset.univ fun ck : Dev nD × Fin 34 => reached ER (kcell ck) 0)

instance records_persistent (K : Dev nD × Fin 34 → ℕ) : BI.Persistent (records m K) := by unfold records; infer_instance

/-- The tokens of the duties device `c` pays. -/
def payToks (c : Dev nD) : sProp 𝕄 :=
  iprop((bigSep Finset.univ fun k : Dev nD => dutyTok ER (barCell k) 0 c) ∗ (bigSep Finset.univ fun k : Fin 8 => dutyTok ER (sendCell c k) 0 0)
    ∗ (bigSep Finset.univ fun k : Dev nD => dutyTok ER (recvCell k c) 0 0) ∗ (bigSep Finset.univ fun k : Fin 8 => dutyTok ER (asendCell c k) 0 0)
    ∗ (bigSep Finset.univ fun k : Dev nD => dutyTok ER (arecvCell k c) 0 0) ∗ (bigSep Finset.univ fun k : Fin 8 => dutyTok ER (locCell c) k.val 0))

/-- What the global step makes for device `c`: the records at some names, its positions, the tokens it pays with. -/
def G' (c : Dev nD) : sProp 𝕄 :=
  iprop(∃ K, records m K ∗ (bigSep Finset.univ fun k : Fin 34 => atPos ER (kcell (c, k)) 0 ∅ 0) ∗ payToks c)

omit [FloatOps F] in
/-- The tokens dealt around: a device's barrier tokens and landing tokens to the devices that pay them. -/
theorem toks_around : (bigSep Finset.univ fun c : Dev nD => (toks c : sProp 𝕄)) = bigSep Finset.univ fun c : Dev nD => payToks c := by
  unfold toks payToks
  simp only [bigSep_sep']
  rw [BI.bigSep_univ_comm (fun (c k : Dev nD) => (dutyTok ER (barCell c) 0 k : sProp 𝕄)),
    BI.bigSep_univ_comm (fun (c k : Dev nD) => (dutyTok ER (recvCell c k) 0 0 : sProp 𝕄)),
    BI.bigSep_univ_comm (fun (c k : Dev nD) => (dutyTok ER (arecvCell c k) 0 0 : sProp 𝕄))]

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 34 => iprop(∃ κ : ℕ, cellInv ER (sched m) κ (kcell ck))),
    bigSep_congr (s := Finset.univ) (fun (c : Dev nD) _ => bigSep_sep' Finset.univ (fun k : Fin 34 => (atPos ER (kcell (c, k)) 0 ∅ 0 : sProp 𝕄)) (fun k => reached ER (kcell (c, k)) 0)),
    bigSep_sep', ← bigSep_univ_prod (fun ck : Dev nD × Fin 34 => (reached ER (kcell ck) 0 : sProp 𝕄)), toks_around]
  iintro ⟨HI, ⟨Hat, #HR⟩, Htok⟩
  ihave HK := (BI.bigSep_exists_pi Finset.univ (fun (ck : Dev nD × Fin 34) (κ : ℕ) => (cellInv ER (sched m) κ (kcell ck) : sProp 𝕄))) $$ HI
  icases HK with ⟨%K, #HI⟩
  iapply (bigSep_with_persistent (R := records m K) (Φ := fun c => iprop((bigSep Finset.univ fun k : Fin 34 => atPos ER (kcell (c, k)) 0 ∅ 0) ∗ payToks c))
    fun c _ => show _ ⊢ G' m c from by unfold G'; iintro H; iexists K; iexact H)
  isplitr
  · unfold records; isplitl; · iexact HI
    iexact HR
  · rw [bigSep_sep']
    isplitl [Hat]; · iexact Hat
    iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.A2A

end
-- ==== Proof.Launch2.lean ====
/- The launch credit, what each core starts from and ends with, and the run of the whole machine. -/
module

public import proofs.«01_k».proof.Proof.Launch1
public import Idealize.ShloMosaic.Lib.Pipeline.CollectiveSegs

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Seven of a kind, regrouped -/

omit [FloatOps F] in
theorem seven_sep (A B : Fin 7 → sProp 𝕄) : (seven fun r => iprop(A r ∗ B r)) = iprop(seven A ∗ seven B) := by
  rw [← seven_eq, ← seven_eq, ← seven_eq, bigSep_sep']
omit [FloatOps F] in
theorem seven_mono {A B : Fin 7 → sProp 𝕄} (h : ∀ r, A r ⊢ B r) : seven A ⊢ seven B := by
  rw [← seven_eq, ← seven_eq]; exact bigSep_mono fun r _ => h r

theorem pr_ne (c : Dev nD) (r : Fin 7) : pr c r ≠ c := (peer_ne c (r.val + 1) (by omega) (by omega)).symm

/-! ## The launch credit -/

theorem peers_count (d c : Dev nD) : ((Finset.Ico 1 8).filter fun e => c = peer d e).card = if d = c then 0 else 1 := by
  revert d c; decide

/-- What seven equal dues, one on each other device's cell, come to on one device's cell. -/
theorem ow_eval (d c : Dev nD) (g : Dev nD → GSem nD τ sig) (hg : Function.Injective g) (n : ℕ) :
    (∑ e ∈ Finset.Ico 1 8, tallyAt (g (peer d e)) () n : CellTallies nD τ sig Unit) (g c) () = if d = c then 0 else n := by
  rw [Finset.sum_apply, Finsupp.finset_sum_apply]
  have h : ∀ e ∈ Finset.Ico 1 8, (tallyAt (g (peer d e)) () n : CellTallies nD τ sig Unit) (g c) () = if c = peer d e then n else 0 := fun e _ => by
    rw [tallyAt_apply]
    by_cases h : c = peer d e
    · rw [if_pos ⟨congrArg g h, rfl⟩, if_pos h]
    · rw [if_neg (fun h' => h (hg h'.1)), if_neg h]
  rw [Finset.sum_congr rfl h, ← Finset.sum_filter, Finset.sum_const, peers_count]
  split <;> simp

theorem ow_zero (d : Dev nD) (g : Dev nD → GSem nD τ sig) (x : GSem nD τ sig) (hx : ∀ p, x ≠ g p) (n : ℕ) :
    (∑ e ∈ Finset.Ico 1 8, tallyAt (g (peer d e)) () n : CellTallies nD τ sig Unit) x () = 0 := by
  rw [Finset.sum_apply, Finsupp.finset_sum_apply]
  exact Finset.sum_eq_zero fun e _ => by rw [tallyAt_ne_cell (hx _)]; rfl

theorem cell_dev {a b : Dev nD} {s s' : SemLoc sig} (h : (((a : Thread nD τ), s) : GSem nD τ sig) = ((b : Thread nD τ), s')) : a = b :=
  congrArg (fun g : GSem nD τ sig => g.1.1) h
theorem cell_kind {a b : Dev nD} {s s' : SemLoc sig} (h : (((a : Thread nD τ), s) : GSem nD τ sig) = ((b : Thread nD τ), s')) : kindOf s = kindOf s' :=
  congrArg (fun g : GSem nD τ sig => kindOf g.2) h

theorem owed_bar (d c : Dev nD) : O₀ d (barCell c) () = if d = c then 0 else 1 := by
  unfold O₀ owA owR owB
  rw [Pi.add_apply, Finsupp.add_apply, Pi.add_apply, Finsupp.add_apply,
    ow_zero d (fun p => arecvCell p d) (barCell c) (fun p h => by have := cell_kind h; rw [kind_bar, kind_arecv] at this; cases this),
    ow_zero d (fun p => recvCell p d) (barCell c) (fun p h => by have := cell_kind h; rw [kind_bar, kind_recv] at this; cases this),
    ow_eval d c barCell (fun a b h => cell_dev h), Nat.zero_add]

theorem owed_recv (d c k : Dev nD) (hk : k ≠ c) : O₀ d (recvCell c k) () = if d = k then N1 else 0 := by
  unfold O₀ owA owR owB
  rw [Pi.add_apply, Finsupp.add_apply, Pi.add_apply, Finsupp.add_apply,
    ow_zero d (fun p => arecvCell p d) (recvCell c k) (fun p h => by have := cell_kind h; rw [kind_recv, kind_arecv] at this; cases this),
    ow_zero d barCell (recvCell c k) (fun p h => by have := cell_kind h; rw [kind_recv, kind_bar] at this; cases this), Nat.zero_add, Nat.add_zero]
  by_cases h : d = k
  · subst h
    rw [ow_eval d c (fun p => recvCell p d) (fun a b h => cell_dev h), if_neg hk, if_pos rfl]
  · rw [ow_zero d (fun p => recvCell p d) (recvCell c k) (fun p h' => by
      have := cell_kind h'; rw [kind_recv, kind_recv] at this; exact h (Role.recv.inj this).symm), if_neg h]

theorem owed_arecv (d c k : Dev nD) (hk : k ≠ c) : O₀ d (arecvCell c k) () = if d = k then N2 else 0 := by
  unfold O₀ owA owR owB
  rw [Pi.add_apply, Finsupp.add_apply, Pi.add_apply, Finsupp.add_apply,
    ow_zero d (fun p => recvCell p d) (arecvCell c k) (fun p h => by have := cell_kind h; rw [kind_arecv, kind_recv] at this; cases this),
    ow_zero d barCell (arecvCell c k) (fun p h => by have := cell_kind h; rw [kind_arecv, kind_bar] at this; cases this)]
  simp only [Nat.add_zero]
  by_cases h : d = k
  · subst h
    rw [ow_eval d c (fun p => arecvCell p d) (fun a b h => cell_dev h), if_neg hk, if_pos rfl]
  · rw [ow_zero d (fun p => arecvCell p d) (arecvCell c k) (fun p h' => by
      have := cell_kind h'; rw [kind_arecv, kind_arecv] at this; exact h (Role.arecv.inj this).symm), if_neg h]

/-- A cell's launch credit. -/
def lc (g : GSem nD τ sig) : CellTallies nD τ sig Unit := tallyOn g (launchCredit (Pipeline.owing O₀) 0 g)

theorem lc_eq (g : GSem nD τ sig) (n : ℕ) (h : ∑ d : Dev nD, O₀ d g () = n) : lc g = tallyAt g () n := by
  unfold lc tallyAt
  refine congrArg _ (Finsupp.ext fun u => ?_)
  cases u
  rw [Pipeline.launchCredit_owing, Finsupp.single_eq_same, h]

theorem lc_bar (c : Dev nD) : lc (barCell c) = tallyAt (barCell c) () 7 :=
  lc_eq _ _ (by rw [Finset.sum_congr rfl fun d _ => owed_bar d c]; revert c; decide)
theorem lc_recv (c k : Dev nD) (hk : k ≠ c) : lc (recvCell c k) = tallyAt (recvCell c k) () N1 :=
  lc_eq _ _ (by rw [Finset.sum_congr rfl fun d _ => owed_recv d c k hk, Finset.sum_ite_eq' Finset.univ k fun _ => N1, if_pos (Finset.mem_univ _)])
theorem lc_arecv (c k : Dev nD) (hk : k ≠ c) : lc (arecvCell c k) = tallyAt (arecvCell c k) () N2 :=
  lc_eq _ _ (by rw [Finset.sum_congr rfl fun d _ => owed_arecv d c k hk, Finset.sum_ite_eq' Finset.univ k fun _ => N2, if_pos (Finset.mem_univ _)])

omit [FloatOps F] in
theorem cells_sub (c : Dev nD) : (Pipeline.launchCred O₀ c : sProp 𝕄) ⊢ bigSep Finset.univ fun k : Fin 34 => cred (lc (kcell (c, k))) := by
  have e : (bigSep (Finset.univ.map ⟨csem, csem_injective⟩) fun sm : SemLoc sig => (cred (lc ((c : Thread nD τ), sm)) : sProp 𝕄))
      = bigSep Finset.univ fun k : Fin 34 => cred (lc (kcell (c, k))) := by rw [bigSep_map]; rfl
  rw [← e]
  exact bigSep_subset (Finset.subset_univ _)

theorem creds (c : Dev nD) : (Pipeline.launchCred O₀ c : sProp 𝕄)
    ⊢ iprop(cred (tallyAt (barCell c) () 7) ∗ (seven fun r => cred (tallyAt (recvCell c (pr c r)) () N1)) ∗ (seven fun r => cred (tallyAt (arecvCell c (pr c r)) () N2))) := by
  refine (cells_sub c).trans ?_
  rw [cells_eq]
  simp only [kcell_bar, kcell_send, kcell_recv, kcell_asend, kcell_arecv, kcell_loc]
  rw [eight_peers c (fun k => cred (lc (recvCell c k))), eight_peers c (fun k => cred (lc (arecvCell c k))), lc_bar,
    show (fun r => cred (lc (recvCell c (pr c r)))) = fun r => (cred (tallyAt (recvCell c (pr c r)) () N1) : sProp 𝕄) from
      funext fun r => by rw [lc_recv c _ (pr_ne c r)],
    show (fun r => cred (lc (arecvCell c (pr c r)))) = fun r => (cred (tallyAt (arecvCell c (pr c r)) () N2) : sProp 𝕄) from
      funext fun r => by rw [lc_arecv c _ (pr_ne c r)]]
  iintro ⟨HB, -, ⟨-, HR⟩, -, ⟨-, HA⟩, -⟩
  isplitl [HB]; · iexact HB
  isplitl [HR]; · iexact HR
  iexact HA

/-! ## What a core starts from -/

/-- A core's positions, one by one. -/
theorem pos_eq (c : Dev nD) : (bigSep Finset.univ fun k : Fin 34 => (atPos ER (kcell (c, k)) 0 ∅ 0 : sProp 𝕄))
    = iprop(atPos ER (barCell c) 0 ∅ 0
        ∗ ((seven fun r => atPos ER (sendCell c (slot r)) 0 ∅ 0) ∗ atPos ER (sendCell c 7) 0 ∅ 0)
        ∗ (atPos ER (recvCell c c) 0 ∅ 0 ∗ seven fun r => atPos ER (recvCell c (pr c r)) 0 ∅ 0)
        ∗ ((seven fun r => atPos ER (asendCell c (slot r)) 0 ∅ 0) ∗ atPos ER (asendCell c 7) 0 ∅ 0)
        ∗ (atPos ER (arecvCell c c) 0 ∅ 0 ∗ seven fun r => atPos ER (arecvCell c (pr c r)) 0 ∅ 0)
        ∗ atPos ER (locCell c) 0 ∅ 0) := by
  rw [cells_eq]
  simp only [kcell_bar, kcell_send, kcell_recv, kcell_asend, kcell_arecv, kcell_loc]
  rw [eight_slots (fun j => atPos ER (sendCell c j) 0 ∅ 0), eight_slots (fun j => atPos ER (asendCell c j) 0 ∅ 0),
    eight_peers c (fun k => atPos ER (recvCell c k) 0 ∅ 0), eight_peers c (fun k => atPos ER (arecvCell c k) 0 ∅ 0)]

/-- The tokens it pays with, one by one. -/
theorem pay_eq (c : Dev nD) : (payToks c : sProp 𝕄)
    = iprop((dutyTok ER (barCell c) 0 c ∗ seven fun r => dutyTok ER (barCell (pr c r)) 0 c)
        ∗ ((seven fun r => dutyTok ER (sendCell c (slot r)) 0 0) ∗ dutyTok ER (sendCell c 7) 0 0)
        ∗ (dutyTok ER (recvCell c c) 0 0 ∗ seven fun r => dutyTok ER (recvCell (pr c r) c) 0 0)
        ∗ ((seven fun r => dutyTok ER (asendCell c (slot r)) 0 0) ∗ dutyTok ER (asendCell c 7) 0 0)
        ∗ (dutyTok ER (arecvCell c c) 0 0 ∗ seven fun r => dutyTok ER (arecvCell (pr c r) c) 0 0)
        ∗ (dutyTok ER (locCell c) 0 0 ∗ dutyTok ER (locCell c) 1 0 ∗ dutyTok ER (locCell c) 2 0 ∗ dutyTok ER (locCell c) 3 0
          ∗ dutyTok ER (locCell c) 4 0 ∗ dutyTok ER (locCell c) 5 0 ∗ dutyTok ER (locCell c) 6 0 ∗ dutyTok ER (locCell c) 7 0)) := by
  unfold payToks
  rw [eight_slots (fun j => dutyTok ER (sendCell c j) 0 0), eight_slots (fun j => dutyTok ER (asendCell c j) 0 0),
    eight_peers c (fun k => dutyTok ER (barCell k) 0 c), eight_peers c (fun k => dutyTok ER (recvCell k c) 0 0),
    eight_peers c (fun k => dutyTok ER (arecvCell k c) 0 0), eight_eq (fun k => dutyTok ER (locCell c) k.val 0)]
  rfl

/-- What is handed into the first point, the scratch buffers apart. -/
def startX (c : Dev nD) : sProp 𝕄 :=
  iprop((∃ K, recs m K ∗ (bigSep Finset.univ fun k : Fin 34 => atPos ER (kcell (c, k)) 0 ∅ 0) ∗ payToks c)
    ∗ (cred (tallyAt (barCell c) () 7) ∗ (seven fun r => cred (tallyAt (recvCell c (pr c r)) () N1)) ∗ (seven fun r => cred (tallyAt (arecvCell c (pr c r)) () N2)))
    ∗ ((c : Thread nD τ).loc main_arg0 ↦{fullShare} xBuf m c) ∗ ((c : Thread nD τ).loc main_v1 ↦{fullShare} m ((c : Thread nD τ).loc main_v1)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  rw [Pipeline.unscopedRestP_none, show (Pipeline.unscopedRest cfg0.spec c (fun b => m ((c : Thread nD τ).loc b)) : sProp 𝕄)
    = iprop((((c : Thread nD τ).loc main_arg0) ↦{fullShare} m ((c : Thread nD τ).loc main_arg0)) ∗ (((c : Thread nD τ).loc main_v1) ↦{fullShare} m ((c : Thread nD τ).loc main_v1)))
    from unscopedRest0_eq c _]
  iintro ⟨⟨Hx, Ho⟩, #Hlev, Hcr, -, HG⟩
  ihave Hc := (creds (F := F) c) $$ Hcr
  imodintro
  unfold startX G' records recs
  icases HG with ⟨%K, ⟨#HI, #HR⟩, Hp⟩
  isplitl
  · isplitl [Hp]
    · iexists K
      isplitr
      · isplitr; · iexact HI
        isplitr; · iexact HR
        iexact Hlev
      iexact Hp
    isplitl [Hc]; · iexact Hc
    isplitl [Hx]; · iexact Hx
    iexact Ho
  · iempintro

theorem phi_zero (c : Dev nD) : ΦAt m c 0 = iprop(∃ K, recs m K ∗ startR m c) := by unfold ΦAt; rw [if_pos rfl]
theorem phi_last (c : Dev nD) : ΦAt m c 32 = endR m c := by unfold ΦAt; rw [if_neg (by decide), if_pos rfl]

theorem phi0_intro (c : Dev nD) :
    iprop(startX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, recs m K ∗ startR m c) from phi_zero m c,
    show (Pipeline.scopedRest cfg0.spec c : sProp 𝕄) = _ from scopedRest0_eq c]
  unfold startX
  rw [pos_eq, pay_eq, x_whole, eight_peers c (fun k => xPts m c k)]
  iintro ⟨⟨⟨%K, #HR, ⟨Hpb, ⟨Hps, Hps7⟩, ⟨Hprc, Hpr⟩, ⟨Hpa, Hpa7⟩, ⟨Hpvc, Hpv⟩, Hpl⟩, ⟨-, Htb⟩, ⟨Hts, -⟩, ⟨-, Htr⟩, ⟨Hta, -⟩, ⟨-, Htv⟩, ⟨Htl0, Htl1, -⟩⟩,
    ⟨Hcb, Hcr, Hcv⟩, ⟨Hxc, Hx⟩, Ho⟩, -, ⟨%f0, H0⟩, ⟨%f1, H1⟩, ⟨%f2, H2⟩⟩
  ihave H0 := (Entails.of_eq ((c_blocks c f0).trans (eight_peers c (fun k => cPts c k f0)))) $$ H0
  ihave H2 := (Entails.of_eq ((m_blocks c f2).trans (eight_peers c (fun k => mPts c k fullShare f2)))) $$ H2
  icases H0 with ⟨H0c, H0⟩
  icases H2 with ⟨H2c, H2⟩
  ihave H0 := (seven_mono (F := F) (B := fun r => iprop(∃ f, cPts c (pr c r) f)) (fun r => by iintro H; iexists f0; iexact H)) $$ H0
  ihave H2 := (seven_mono (F := F) (B := fun r => iprop(∃ f, mPts c (pr c r) fullShare f)) (fun r => by iintro H; iexists f2; iexact H)) $$ H2
  iexists K
  isplitr; · iexact HR
  unfold startR idle
  rw [show seven (sigKit (F := F) c) = iprop((seven fun r => dutyTok ER (barCell (pr c r)) 0 c) ∗ (seven fun r => iprop(∃ f, cPts (F := F) c (pr c r) f)) ∗ (seven fun r => iprop(∃ f, mPts (F := F) c (pr c r) fullShare f))) from by
      rw [← seven_sep, ← seven_sep]; rfl,
    show seven (sendKit m c) = iprop((seven fun r => xPts m c (pr c r)) ∗ (seven fun r => dutyTok ER (sendCell c (slot r)) 0 0) ∗ (seven fun r => dutyTok ER (recvCell (pr c r) c) 0 0)) from by
      rw [← seven_sep, ← seven_sep]; rfl,
    show seven (maxKit (F := F) c) = iprop((seven fun r => dutyTok ER (asendCell c (slot r)) 0 0) ∗ (seven fun r => dutyTok ER (arecvCell (pr c r) c) 0 0) ∗ (seven fun r => atPos ER (asendCell c (slot r)) 0 ∅ 0)) from by
      rw [← seven_sep, ← seven_sep]; rfl,
    show seven (maxWait (F := F) c) = iprop((seven fun r => cred (tallyAt (arecvCell c (pr c r)) () N2)) ∗ (seven fun r => atPos ER (arecvCell c (pr c r)) 0 ∅ 0)) from by
      rw [← seven_sep]; rfl,
    show (seven fun r => recvWait (F := F) c (pr c r)) = iprop((seven fun r => cred (tallyAt (recvCell c (pr c r)) () N1)) ∗ (seven fun r => atPos ER (recvCell c (pr c r)) 0 ∅ 0)) from by
      rw [← seven_sep]; rfl]
  isplitl [Hxc]; · iexact Hxc
  isplitl [Ho]
  · iexists _; unfold oPts; rw [show (oM : Memref sig .tc .hbm S512x8192 .f32).view.set = Finset.univ from View.set_whole _]; iexact Ho
  isplitl [H1]
  · iexists f1; unfold aPts; rw [show (aM : Memref sig .tc .vmem S512x8192 .f32).view.set = Finset.univ from View.set_whole _]; iexact H1
  isplitl [H0c]; · iexists f0; iexact H0c
  isplitl [H2c]; · iexists f2; iexact H2c
  isplitl [Htb H0 H2]
  · isplitl [Htb]; · iexact Htb
    isplitl [H0]; · iexact H0
    iexact H2
  isplitl [Hx Hts Htr]
  · isplitl [Hx]; · iexact Hx
    isplitl [Hts]; · iexact Hts
    iexact Htr
  isplitl [Hta Htv Hpa]
  · isplitl [Hta]; · iexact Hta
    isplitl [Htv]; · iexact Htv
    iexact Hpa
  isplitl [Hcv Hpv]
  · isplitl [Hcv]; · iexact Hcv
    iexact Hpv
  isplitl [Hcr Hpr]
  · isplitl [Hcr]; · iexact Hcr
    iexact Hpr
  isplitl [Hps]; · iexact Hps
  isplitl [Hprc]; · iexact Hprc
  isplitl [Hps7 Hpa7 Hpvc]
  · isplitl [Hps7]; · iexact Hps7
    isplitl [Hpa7]; · iexact Hpa7
    iexact Hpvc
  isplitl [Hcb]; · iexact Hcb
  isplitl [Hpb]; · iexact Hpb
  isplitl [Hpl]; · iexact Hpl
  isplitl [Htl0]; · iexact Htl0
  iexact Htl1

/-- What leaves the last point: the barrier counter at zero, the operand unchanged, the result. -/
def endY (c : Dev nD) : sProp 𝕄 :=
  iprop(unscopedSems0 c ∗ ((c : Thread nD τ).loc main_arg0 ↦{fullShare} xBuf m c) ∗ ((c : Thread nD τ).loc main_v1 ↦{fullShare} outF m c))

theorem phi1_exit (c : Dev nD) :
    (dats m 0 c).Φ (Fin.last cfg0.N) ⊢ iprop(endY m c ∗ Pipeline.ownSems0 osem c ∗ Pipeline.scopedRest cfg0.spec c) := by
  rw [show (dats m 0 c).Φ (Fin.last cfg0.N) = endR m c from phi_last m c,
    show (Pipeline.scopedRest cfg0.spec c : sProp 𝕄) = _ from scopedRest0_eq c]
  unfold endR endY
  rw [← sems0_eq]
  iintro ⟨Hx, Ho, Ha, H0, H2, Hos, Hus⟩
  isplitl [Hx Ho Hus]
  · isplitl [Hus]; · iexact Hus
    isplitl [Hx]; · iexact Hx
    unfold oPts; rw [show (oM : Memref sig .tc .hbm S512x8192 .f32).view.set = Finset.univ from View.set_whole _]; iexact Ho
  isplitl [Hos]; · iexact Hos
  isplitl [H0]; · iexists _; iexact H0
  isplitl [Ha]
  · iexists (outF m c); unfold aPts; rw [show (aM : Memref sig .tc .vmem S512x8192 .f32).view.set = Finset.univ from View.set_whole _]; iexact Ha
  iexists _; iexact H2

theorem mayWait_stage (c : Dev nD) (q : DmaSem sig) (hq : kindOf (.dma q) = .other) (n : ℕ) :
    (levAts L lv : sProp 𝕄) ⊢ MayWait (c : Thread nD τ) (.dma q) () (owedAt c n) := by
  have h0 : lv (((c : Thread nD τ), SemLoc.dma q)) () ≤ 0 := by unfold lv; rw [hq]
  unfold owedAt
  split
  · exact mayWait_cut c _ 0 _ h0 O₀_lv
  split
  · rw [MayWait_zero]; iintro -; iempintro
  · exact mayWait_cut c _ 0 _ h0 fun g u h => ⟨(owA_lv g u h).1, by have := (owA_lv g u h).2; omega⟩

theorem waits (c : Dev nD) : (levAts L lv : sProp 𝕄) ⊢ Pipeline.cellsWaits cfgs (dats m) () 0 c :=
  Pipeline.cellsWaits_intro cfgs (dats m) () 0 c fun w s t =>
    mayWait_stage c _ (by revert w s; decide +kernel) t.val

theorem share_eq (c : Dev nD) (w : Fin cfg0.W) : (dats m 0 c).share w = fullShare := (dats m 0 c).share_full (fun _ => rfl) w

/-! ## The run -/

/-- At the mesh of eight devices, for any float values, from any memory with zero counters: every weakly fair execution
    terminates without fault; at its end each device's result is `outF`, both arguments are unchanged, every counter is zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = outF m c)
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := startX m) (Y := endY m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0) ∧ s.mem ((c : Thread nD τ).loc main_v1) = outF m c)
    (hY := fun c s' => by
      unfold endY
      iintro ⟨⟨Hu, Hx, Ho⟩, -, HSI⟩
      icombine HSI Hx gives %hx
      icombine HSI Ho gives %ho
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ hx, Buf.eq_of_forall_mem_univ ho⟩
      iexact HSI)
    (hQ := fun _ h hs => ⟨fun c => ⟨(h c).2.2.2.1, ((h c).1 0).trans ((dats m 0 c).arrAt_in 0 rfl _), (h c).2.2.2.2⟩, sem_eq_zero hs fun c => (h c).2.2.1⟩)

end Cert.KernelIdeal.A2A

end
-- ==== Proof.Value1.lean ====
/- The accumulator as the whole product: each landed block and each weight block read at an index. -/
module

public import proofs.«01_k».proof.Proof.Common
public import Idealize.ShloMosaic.Lib.MatmulPlain
public import Idealize.ShloMosaic.Lib.StackMember
public import Idealize.ShloMosaic.Lib.LayoutAt
public import Idealize.ShloMosaic.Lib.Pipeline.ValueKit
public import Idealize.ShloMosaic.Lib.KernelVsHost
public import Idealize.ShloMosaic.Lib.IdealHost

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The window's block at every point: row block `t / 4`, column block `t % 4`. -/
theorem wIndex : ∀ t : Fin cfg0.N, win0_0.index t 0 = t.val / 4 ∧ win0_0.index t 1 = t.val % 4 := by decide +kernel

/-- The unpartitioned first operand's shape. -/
abbrev S4096x4096 : Shape := ⟨2, ![4096, 4096]⟩

/-- The whole product of the unpartitioned arrays, at an index. -/
def yv (X : S4096x4096.Idx → EReal) (W : S4096x8192.Idx → EReal) (i : Fin 4096) (j : Fin 8192) : EReal :=
  ∑ k : Fin 4096, X (ValueIdx.ix2 i k) * W (ValueIdx.ix2 k j)

section
variable (m : (ℓ : Loc nD τ sig) → Buf (Elt Ideal) ℓ)
variable (X : S4096x4096.Idx → EReal) (W : S4096x8192.Idx → EReal)

/-- The devices' arguments are the whole arrays' blocks. -/
def Agree : Prop := ∀ c : Dev nD, m ((c : Thread nD τ).loc main_arg0) = Layout.block ⟨2, ![4096, 512]⟩ ⟨2, ![4096, 4096]⟩ 1 8 c X
  ∧ m ((c : Thread nD τ).loc main_arg1) = W

variable {m X W}

theorem xv_apply (h : Agree m X W) (c : Dev nD) (k : ℕ) (hk : k < 8) (r l : Fin 512) :
    xv m c k (ValueIdx.ix2 (n0 := 512) (n1 := 512) r l)
      = X (ValueIdx.ix2 ⟨512 * c.val + r.val, by have : c.val < 8 := c.isLt; omega⟩ ⟨512 * k + l.val, by omega⟩) := by
  unfold xv
  rw [View.read_apply]
  set K : Fin 8 := ⟨k % 8, Nat.mod_lt _ (by decide)⟩ with hK
  have hKv : K.val = k := Nat.mod_eq_of_lt hk
  have e0 : ((cB K).view.emb (ValueIdx.ix2 (n0 := 512) (n1 := 512) r l) 0).val = 512 * K.val + r.val :=
    ValueKit.view_emb_slice_whole_unit_val cc0_scratch0 ![512 * K.val, 0] S512x512.size (inbRow K) _ 0
  have e1 : ((cB K).view.emb (ValueIdx.ix2 (n0 := 512) (n1 := 512) r l) 1).val = 0 + l.val :=
    ValueKit.view_emb_slice_whole_unit_val cc0_scratch0 ![512 * K.val, 0] S512x512.size (inbRow K) _ 1
  show commF m c _ = _
  unfold commF xBuf
  rw [(h _).1, Layout.block_apply]
  refine congrArg X (funext (Fin.forall_fin_two.mpr ⟨Fin.ext ?_, Fin.ext ?_⟩))
  · refine (Layout.Tiles.idx_val_of_ne _ _ _ _ (by decide)).trans ?_
    show 512 * c.val + ((cB K).view.emb (ValueIdx.ix2 (n0 := 512) (n1 := 512) r l) 0).val % 512 = 512 * c.val + r.val
    rw [e0]; omega
  · refine (Layout.Tiles.idx_val_self _ _ _ _ (by decide)).trans ?_
    show ((cB K).view.emb (ValueIdx.ix2 (n0 := 512) (n1 := 512) r l) 0).val / 512 * 512 + ((cB K).view.emb (ValueIdx.ix2 (n0 := 512) (n1 := 512) r l) 1).val = 512 * k + l.val
    rw [e0, e1]; omega

theorem wv_apply (h : Agree m X W) (c : Dev nD) (k n : ℕ) (hk : k < 8) (hn : n < 4) (l : Fin 512) (q : Fin 2048) :
    wv m c (ptOf k n) (ValueIdx.ix2 (n0 := 512) (n1 := 2048) l q)
      = W (ValueIdx.ix2 (n0 := 4096) (n1 := 8192) ⟨512 * k + l.val, by omega⟩ ⟨2048 * n + q.val, by omega⟩) := by
  have hp : (ptOf k n).val = 4 * k + n := Nat.mod_eq_of_lt (by omega)
  have hi := wIndex (ptOf k n)
  show (m ((c : Thread nD τ).loc main_arg1)) _ = _
  rw [(h c).2]
  refine congrArg W (funext (Fin.forall_fin_two.mpr ⟨Fin.ext ?_, Fin.ext ?_⟩))
  · refine (Pipeline.Window.rect_emb_val _ _ _ _).trans ?_
    rw [hi.1, hp]
    show (4 * k + n) / 4 * 512 + l.val = 512 * k + l.val
    omega
  · refine (Pipeline.Window.rect_emb_val _ _ _ _).trans ?_
    rw [hi.2, hp]
    show (4 * k + n) % 4 * 2048 + q.val = 2048 * n + q.val
    omega

/-- One term of the contraction, at any natural number. -/
def term (X : S4096x4096.Idx → EReal) (W : S4096x8192.Idx → EReal) (i : Fin 4096) (j : Fin 8192) (s : ℕ) : EReal :=
  if h : s < 4096 then X (ValueIdx.ix2 i ⟨s, h⟩) * W (ValueIdx.ix2 ⟨s, h⟩ j) else 0

theorem term_of_lt (i : Fin 4096) (j : Fin 8192) (s : ℕ) (h : s < 4096) :
    term X W i j s = X (ValueIdx.ix2 i ⟨s, h⟩) * W (ValueIdx.ix2 ⟨s, h⟩ j) := dif_pos h

theorem yv_eq_range (i : Fin 4096) (j : Fin 8192) : yv X W i j = ∑ s ∈ Finset.range 4096, term X W i j s := by
  rw [Finset.sum_range]
  exact Finset.sum_congr rfl fun s _ => (term_of_lt i j s.val s.isLt).symm

theorem dot_eq : dot_S512x512_S512x2048_S512x2048_1_0_0_1_n_n = DotDims.plain 512 512 2048 := rfl

/-- One block product at an index. -/
theorem pay1_apply (a : Vec Ideal S512x512 .f32) (b : Vec Ideal S512x2048 .f32) (r : Fin 512) (q : Fin 2048) :
    k0_pay1 a b (ValueIdx.ix2 r q) = ∑ l : Fin 512, a (ValueIdx.ix2 r l) * b (ValueIdx.ix2 l q) := by
  unfold k0_pay1
  simp only [shapeCast_self]
  rw [dot_eq]
  refine (Ideal.matmul_plain_apply none a b _ r q).trans ?_
  show Ideal.ofBits .f32 0x00000000#32 + _ = _
  rw [Ideal.ofBits_zero_f32, zero_add]

/-- The product of block `k` is the contraction's terms `512 k` to `512 k + 511`. -/
theorem block_apply (h : Agree m X W) (c : Dev nD) (k n : ℕ) (hk : k < 8) (hn : n < 4) (r : Fin 512) (q : Fin 2048) :
    k0_pay1 (xv m c k) (wv m c (ptOf k n)) (ValueIdx.ix2 r q)
      = ∑ l ∈ Finset.range 512, term X W ⟨512 * c.val + r.val, by have : c.val < 8 := c.isLt; omega⟩ ⟨2048 * n + q.val, by omega⟩ (512 * k + l) := by
  rw [pay1_apply, Finset.sum_range]
  refine Finset.sum_congr rfl fun l _ => ?_
  rw [xv_apply h c k hk, wv_apply h c k n hk hn]
  exact (term_of_lt _ _ _ (by omega)).symm

/-- Column block `n` after block `k`: the contraction's first `512 (k + 1)` terms. -/
theorem part_apply (h : Agree m X W) (c : Dev nD) (n : ℕ) (hn : n < 4) (r : Fin 512) (q : Fin 2048) : ∀ k : ℕ, k < 8 →
    part m c n k (ValueIdx.ix2 r q)
      = ∑ s ∈ Finset.range (512 * k + 512), term X W ⟨512 * c.val + r.val, by have : c.val < 8 := c.isLt; omega⟩ ⟨2048 * n + q.val, by omega⟩ s
  | 0, _ => by
    unfold part k0_pay2
    simp only [shapeCast_self]
    rw [block_apply h c 0 n (by decide) hn]
    simp only [Nat.mul_zero, Nat.zero_add]
  | k + 1, hk => by
    unfold part k0_pay3
    simp only [shapeCast_self]
    show part m c n k (ValueIdx.ix2 r q) + k0_pay1 (xv m c (k + 1)) (wv m c (ptOf (k + 1) n)) (ValueIdx.ix2 r q) = _
    rw [block_apply h c (k + 1) n hk hn, part_apply h c n hn r q k (by omega), Finset.sum_range_add (n := 512 * (k + 1))]
    rfl

/-- The accumulator is the device's rows of the whole product. -/
theorem accF_apply (h : Agree m X W) (c : Dev nD) (r : Fin 512) (j : Fin 8192) :
    accF m c (ValueIdx.ix2 r j) = yv X W ⟨512 * c.val + r.val, by have : c.val < 8 := c.isLt; omega⟩ j := by
  unfold accF
  refine (part_apply h c (j.val / 2048) (by omega) r ⟨j.val % 2048, Nat.mod_lt _ (by decide)⟩ 7 (by decide)).trans ?_
  rw [yv_eq_range]
  have e : (⟨2048 * (j.val / 2048) + j.val % 2048, by omega⟩ : Fin 8192) = j := Fin.ext (by show 2048 * (j.val / 2048) + j.val % 2048 = j.val; omega)
  show (∑ s ∈ Finset.range 4096, term X W _ (⟨2048 * (j.val / 2048) + j.val % 2048, _⟩ : Fin 8192) s) = _
  rw [e]
end

end Cert.KernelIdeal.A2A

end
-- ==== Proof.Value2.lean ====
/- The largest entry and the quantiser, at the ideal values. -/
module

public import proofs.«01_k».proof.Proof.Value1

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The constants -/

theorem neg_inf : Ideal.ofBits .f32 0xFF800000#32 = ⊥ := by
  simp [Ideal.ofBits, Ideal.ieee]

/-- The kernel's floor, a positive real. -/
theorem floor_eq : Ideal.ofBits .f32 0x0DA24260#32 = (((10633824 : ℝ) * (2 : ℝ) ^ (-123 : ℤ) : ℝ) : EReal) := by
  simp [Ideal.ofBits, Ideal.ieee]

theorem c127_eq : Ideal.ofBits .f32 0x42FE0000#32 = ((127 : ℝ) : EReal) := by
  simp [Ideal.ofBits, Ideal.ieee]
  rw [← EReal.coe_mul]
  norm_num

theorem cm127_eq : Ideal.ofBits .f32 0xC2FE0000#32 = ((-127 : ℝ) : EReal) := by
  simp [Ideal.ofBits, Ideal.ieee]
  rw [← EReal.coe_mul]
  norm_num

/-! ## The largest entry -/

/-- A maximum over every axis from −∞ is a least upper bound. -/
theorem maxTotal_le {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) (b : EReal) :
    (multiReduction .maximumf axes t src 0xFF800000#32 h hφ hacc j : EReal) ≤ b ↔ ∀ i, (src i : EReal) ≤ b := by
  rw [multiReduction_maximumf_eq_fold, Finset.filter_true_of_mem fun i _ => funext fun b => Fin.ext (by
    have := (h.drop i b).isLt; have := (j b).isLt; have := ht b; omega)]
  refine (Finset.fold_max_le (b := Ideal.ofBits .f32 0xFF800000#32) (f := src) b).trans ?_
  rw [neg_inf]
  exact ⟨fun h i => h.2 i (Finset.mem_univ i), fun h => ⟨bot_le, fun i _ => h i⟩⟩

/-- The host's likewise. -/
theorem hostMax_le {s t u : Shape} {axes : List (Fin s.rank)} (src : FVec Ideal s .f32) (h : s.ReducesTo axes t) (ht : ∀ b, t.size b = 1)
    (hu : 0 < u.numel) (j : t.Idx) (b : EReal) :
    (Host.reduce (FloatOps.maximumf (F := Ideal) (φ := .f32)) src (constant (F := Ideal) u .f32 0xFF800000#32) h hu j : EReal) ≤ b ↔ ∀ i, (src i : EReal) ≤ b := by
  rw [Host.reduce_eq_fold, Finset.filter_true_of_mem fun i _ => funext fun b => Fin.ext (by
    have := (h.drop i b).isLt; have := (j b).isLt; have := ht b; omega)]
  refine (Finset.fold_max_le (b := Ideal.ofBits .f32 0xFF800000#32) (f := src) b).trans ?_
  rw [neg_inf]
  exact ⟨fun h i => h.2 i (Finset.mem_univ i), fun h => ⟨bot_le, fun i _ => h i⟩⟩

/-- The rectified product. -/
def rv (X : S4096x4096.Idx → EReal) (W : S4096x8192.Idx → EReal) (i : Fin 4096) (j : Fin 8192) : EReal := max (yv X W i j) 0

/-- Its largest entry. -/
def gv (X : S4096x4096.Idx → EReal) (W : S4096x8192.Idx → EReal) : EReal := ⨆ i : Fin 4096, ⨆ j : Fin 8192, rv X W i j

theorem gv_le (X : S4096x4096.Idx → EReal) (W : S4096x8192.Idx → EReal) (b : EReal) : gv X W ≤ b ↔ ∀ i j, rv X W i j ≤ b := by
  unfold gv; simp only [iSup_le_iff]

theorem gv_nonneg (X : S4096x4096.Idx → EReal) (W : S4096x8192.Idx → EReal) : 0 ≤ gv X W :=
  (le_max_right _ _).trans ((gv_le X W _).mp le_rfl 0 0)

/-- A rounded, clipped quotient, scaled back. -/
def quant (y s : EReal) : EReal :=
  min (Ideal.ofBits .f32 0x42FE0000#32) (max (Ideal.ofBits .f32 0xC2FE0000#32) (Ideal.liftRound Ideal.roundHalfEven (Ideal.div y s))) * s

theorem pay4_apply (s : EReal) (v : Vec Ideal S512x8192 .f32) (i : S512x8192.Idx) :
    k0_pay4 (F := Ideal) s v k0_pay7 i = quant (max (v i) 0) s := by
  unfold k0_pay4 k0_pay7
  simp only [shapeCast_self]
  show quant (max (v i) (Ideal.ofBits .f32 0x00000000#32)) s = _
  rw [Ideal.ofBits_zero_f32]

theorem shapeCast_at {s t : Shape} (v : s.Idx → EReal) (h : s.ShapeCasts t) (j : t.Idx) :
    shapeCast t v h j = v (Shape.reshapeEquiv h j) := rfl

/-- A bound on every entry is a bound on every entry of a reshape. -/
theorem shapeCast_le {s t : Shape} (v : s.Idx → EReal) (h : s.ShapeCasts t) (b : EReal) :
    (∀ i, shapeCast t v h i ≤ b) ↔ ∀ i, v i ≤ b :=
  ⟨fun H i => by have := H ((Shape.reshapeEquiv h).symm i); rwa [shapeCast, Equiv.apply_symm_apply] at this, fun H i => H _⟩

theorem S1_one (b : Fin S1.rank) : S1.size b = 1 := by fin_cases b; rfl

/-- The largest entry as the kernel reads it out of a reduction. -/
theorem tail_eq {s : Shape} {axes : List (Fin s.rank)} (w : FVec Ideal s .f32) (h : s.Reduces axes S1) (g : EReal)
    (hg : ∀ b, g ≤ b ↔ ∀ r, (w r : EReal) ≤ b) :
    extractAt ![0, 0, 0] (shapeCast S1x1x1 (multiReduction .maximumf axes S1 w 0xFF800000#32 h (.inl rfl) rfl) shapeCasts_S1_S1x1x1) inpos_S1x1x1_p0_0_0 = g := by
  refine eq_of_forall_ge_iff fun b => ?_
  refine (maxTotal_le _ h S1_one (.inl rfl) rfl _ b).trans ?_
  exact (hg b).symm

/-- A device's row of maxima, each the largest entry of its rectified accumulator. -/
theorem pay5_eq (v : Vec Ideal S512x8192 .f32) (i : S1x128.Idx) (g : EReal) (hg : ∀ b, g ≤ b ↔ ∀ r, max (v r) 0 ≤ b) :
    k0_pay5 (F := Ideal) v i = g := by
  have e : k0_pay5 (F := Ideal) v = shapeCast S1x128 (broadcast S1x128 (extractAt ![0, 0, 0] (shapeCast S1x1x1 (multiReduction (F := Ideal) .maximumf [1, 2] S1 (shapeCast S1x512x8192 (maximumf v (broadcast S512x8192 (Scalar.ofBits (F := Ideal) .f32 0x00000000#32))) shapeCasts_S512x8192_S1x512x8192) 0xFF800000#32 reduces_S1x512x8192_S1 (.inl rfl) rfl) shapeCasts_S1_S1x1x1) inpos_S1x1x1_p0_0_0)) shapeCasts_S1x128_S1x128 := by
    unfold k0_pay5
    with_reducible rfl
  rw [e, shapeCast_self]
  have e2 := tail_eq (shapeCast S1x512x8192 (maximumf (F := Ideal) v (broadcast S512x8192 (Scalar.ofBits (F := Ideal) .f32 0x00000000#32))) shapeCasts_S512x8192_S1x512x8192) reduces_S1x512x8192_S1 g (fun b => by
    refine (hg b).trans (Iff.trans ?_ (shapeCast_le _ _ b).symm)
    refine forall_congr' fun r => ?_
    rw [← Ideal.ofBits_zero_f32]
    rfl)
  rw [e2]
  rfl

/-- A device's row of maxima: the largest entry of its rectified accumulator. -/
theorem pay5_le (v : Vec Ideal S512x8192 .f32) (i : S1x128.Idx) (b : EReal) :
    (k0_pay5 (F := Ideal) v i : EReal) ≤ b ↔ ∀ r : S512x8192.Idx, max (v r) 0 ≤ b := by
  rw [pay5_eq v i (⨆ r : S512x8192.Idx, max (v r) 0) fun b => iSup_le_iff]
  exact iSup_le_iff

/-- The scale from the table of maxima. -/
theorem pay6_eq (v : Vec Ideal S8x128 .f32) (g : EReal) (hg : ∀ b, g ≤ b ↔ ∀ r, (v r : EReal) ≤ b) :
    k0_pay6 (F := Ideal) v = Ideal.div (max g (Ideal.ofBits .f32 0x0DA24260#32)) (Ideal.ofBits .f32 0x42FE0000#32) := by
  unfold k0_pay6
  refine congrArg (fun z => Ideal.div (max z (Ideal.ofBits .f32 0x0DA24260#32)) (Ideal.ofBits .f32 0x42FE0000#32))
    (eq_of_forall_ge_iff fun b => ?_)
  refine (maxTotal_le _ reduces_S1x8x128_S1 S1_one (.inl rfl) rfl _ b).trans ?_
  exact (shapeCast_le _ _ b).trans (hg b).symm

section
variable {m : (ℓ : Loc nD τ sig) → Buf (Elt Ideal) ℓ}
variable {X : S4096x4096.Idx → EReal} {W : S4096x8192.Idx → EReal}

/-- The table of maxima as extended reals. -/
def amaxV (m : (ℓ : Loc nD τ sig) → Buf (Elt Ideal) ℓ) : S8x128.Idx → EReal := amaxF m

theorem amaxF_le (h : Agree m X W) (b : EReal) : gv X W ≤ b ↔ ∀ r : S8x128.Idx, amaxV m r ≤ b := by
  rw [gv_le]
  constructor
  · intro H r
    unfold amaxV amaxF
    have := pay5_le (accF m ⟨(r 0).val, (r 0).isLt⟩) (ValueIdx.ix2 0 (r 1)) b
    refine this.mpr fun i => ?_
    rw [ValueIdx.eq_ix2 i]
    have hr : (r 0).val < 8 := (r 0).isLt
    have hi : (i 0).val < 512 := (i 0).isLt
    refine (congrArg (fun z : EReal => max z 0) (accF_apply h ⟨(r 0).val, (r 0).isLt⟩ (i 0) (i 1))).trans_le ?_
    exact H ⟨512 * (r 0).val + (i 0).val, by omega⟩ (i 1)
  · unfold amaxV amaxF
    intro H i j
    have hc : i.val / 512 < 8 := by have := i.isLt; omega
    have hp := pay5_le (accF m (⟨i.val / 512, hc⟩ : Dev nD)) (ValueIdx.ix2 (n0 := 1) (n1 := 128) 0 0) b
    have := hp.mp (H (ValueIdx.ix2 (n0 := 8) (n1 := 128) ⟨i.val / 512, hc⟩ 0))
      (ValueIdx.ix2 (n0 := 512) (n1 := 8192) ⟨i.val % 512, Nat.mod_lt _ (by decide)⟩ j)
    rw [accF_apply h] at this
    have e : i = ⟨512 * (i.val / 512) + i.val % 512, by have := i.isLt; omega⟩ := Fin.ext (by show i.val = 512 * (i.val / 512) + i.val % 512; omega)
    rw [e]
    exact this

/-- The floored scale. -/
def floored (g : EReal) : EReal := Ideal.div (max g (Ideal.ofBits .f32 0x0DA24260#32)) (Ideal.ofBits .f32 0x42FE0000#32)

/-- The result on device `c`: its rows of the quantised product. -/
theorem outF_apply (h : Agree m X W) (c : Dev nD) (r : Fin 512) (j : Fin 8192) :
    outF m c (ValueIdx.ix2 r j)
      = quant (rv X W ⟨512 * c.val + r.val, by have : c.val < 8 := c.isLt; omega⟩ j) (floored (gv X W)) := by
  unfold outF
  refine (pay4_apply _ _ _).trans ?_
  rw [accF_apply h, show k0_pay6 (amaxF m) = floored (gv X W) from pay6_eq (amaxV m) _ (amaxF_le h)]
  rfl

end

/-! ## The floor does not matter where the largest entry is zero or above it -/

theorem quant_floor (y g : EReal) (hy : 0 ≤ y) (hyg : y ≤ g) (hg : g = 0 ∨ Ideal.ofBits .f32 0x0DA24260#32 ≤ g) :
    quant y (floored g) = quant y (Ideal.div g (Ideal.ofBits .f32 0x42FE0000#32)) := by
  rcases hg with rfl | hg
  · have hy0 : y = 0 := le_antisymm hyg hy
    subst hy0
    have hc : (Ideal.ofBits .f32 0x42FE0000#32 : EReal) ≠ 0 := by rw [c127_eq]; exact_mod_cast (by norm_num : (127 : ℝ) ≠ 0)
    have hs : floored 0 ≠ 0 := by
      unfold floored
      rw [floor_eq, c127_eq, max_eq_right (by exact_mod_cast (by positivity : (0 : ℝ) ≤ 10633824 * 2 ^ (-123 : ℤ)))]
      unfold Ideal.div
      rw [if_neg (by exact_mod_cast (by norm_num : (127 : ℝ) ≠ 0)), ← EReal.coe_inv, ← EReal.coe_mul]
      exact_mod_cast (by positivity : (10633824 * 2 ^ (-123 : ℤ) * (127 : ℝ)⁻¹ : ℝ) ≠ 0)
    have e1 : Ideal.div 0 (floored 0) = 0 := by unfold Ideal.div; rw [if_neg hs, zero_mul]
    have e2 : Ideal.div 0 (Ideal.ofBits .f32 0x42FE0000#32) = 0 := by unfold Ideal.div; rw [if_neg hc, zero_mul]
    have e3 : Ideal.liftRound Ideal.roundHalfEven 0 = 0 := by
      show Ideal.liftRound Ideal.roundHalfEven ((0 : ℝ) : EReal) = 0
      rw [Ideal.liftRound_coe]
      have : Ideal.roundHalfEven 0 = 0 := by simp [Ideal.roundHalfEven]
      rw [this]; simp
    unfold quant
    rw [e1, e2, e3, mul_zero, cm127_eq, c127_eq, max_eq_right (by exact_mod_cast (by norm_num : (-127 : ℝ) ≤ 0)),
      min_eq_right (by exact_mod_cast (by norm_num : (0 : ℝ) ≤ 127)), zero_mul]
  · unfold floored
    rw [max_eq_left hg]

end Cert.KernelIdeal.A2A

end
-- ==== Proof.Value3.lean ====
/- The reference's term at an index, and the kernel's result as its rows of it, at the ideal values. -/
module

public import proofs.«01_k».proof.Proof.Value2
public import proofs.«01_k».proof.Proof.Gen.ReferenceIdeal.Run

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The reference's term, at an index -/

section
open Cert.ReferenceIdeal.Gen (bcast_S_S4096x8192 reducesTo_S4096x8192_S_d0_1 h_S_)
open Cert.ReferenceIdeal (dot_S4096x4096_S4096x8192_S4096x8192_1_0_0_1_n_n)

/-- A rectified number is its own absolute value. -/
theorem abs_rect (y : EReal) : max (max y 0) (-(max y 0)) = max y 0 :=
  max_eq_left ((EReal.neg_le_zero.mpr (le_max_right y 0)).trans (le_max_right y 0))

/-- The reference's largest entry. -/
def refMax (D : FVec Ideal S4096x8192 .f32) : FVec Ideal Cert.ReferenceIdeal.S_ .f32 :=
  Host.reduce FloatOps.maximumf (Host.absf (maximumf D (broadcastInDim S4096x8192 ![] bcast_S_S4096x8192 (constant (F := Ideal) Cert.ReferenceIdeal.S_ .f32 0x00000000#32))))
    (constant (F := Ideal) Cert.ReferenceIdeal.S_ .f32 0xFF800000#32) reducesTo_S4096x8192_S_d0_1 h_S_

/-- The reference's term of its product. -/
def refF (D : FVec Ideal S4096x8192 .f32) : FVec Ideal S4096x8192 .f32 :=
  mulf (minimumf (broadcastInDim S4096x8192 ![] bcast_S_S4096x8192 (id (constant Cert.ReferenceIdeal.S_ .f32 0x42FE0000#32)))
    (maximumf (broadcastInDim S4096x8192 ![] bcast_S_S4096x8192 (id (constant Cert.ReferenceIdeal.S_ .f32 0xC2FE0000#32)))
      (Host.roundeven (Host.divf (maximumf D (broadcastInDim S4096x8192 ![] bcast_S_S4096x8192 (constant Cert.ReferenceIdeal.S_ .f32 0x00000000#32)))
        (broadcastInDim S4096x8192 ![] bcast_S_S4096x8192 (Host.divf (refMax D) (constant Cert.ReferenceIdeal.S_ .f32 0x42FE0000#32)))))))
    (broadcastInDim S4096x8192 ![] bcast_S_S4096x8192 (Host.divf (refMax D) (constant Cert.ReferenceIdeal.S_ .f32 0x42FE0000#32)))

theorem refMax_eq (X : S4096x4096.Idx → EReal) (W : S4096x8192.Idx → EReal) (D : FVec Ideal S4096x8192 .f32)
    (hD : ∀ i j, D (ValueIdx.ix2 i j) = yv X W i j) (z : Cert.ReferenceIdeal.S_.Idx) : (refMax D z : EReal) = gv X W := by
  refine eq_of_forall_ge_iff fun b => ?_
  unfold refMax
  refine (hostMax_le _ reducesTo_S4096x8192_S_d0_1 (fun b => b.elim0) h_S_ z b).trans ?_
  rw [gv_le]
  have e : ∀ i j, (Host.absf (maximumf D (broadcastInDim S4096x8192 ![] bcast_S_S4096x8192 (constant (F := Ideal) Cert.ReferenceIdeal.S_ .f32 0x00000000#32))) (ValueIdx.ix2 i j) : EReal) = rv X W i j := by
    intro i j
    show max (max (D (ValueIdx.ix2 i j)) (Ideal.ofBits .f32 0x00000000#32)) (-(max (D (ValueIdx.ix2 i j)) (Ideal.ofBits .f32 0x00000000#32))) = _
    rw [Ideal.ofBits_zero_f32, abs_rect, hD]
    rfl
  constructor
  · intro H i j
    rw [← e]
    exact H _
  · intro H p
    rw [ValueIdx.eq_ix2 p]
    exact (e _ _).trans_le (H _ _)

theorem refF_apply (X : S4096x4096.Idx → EReal) (W : S4096x8192.Idx → EReal) (D : FVec Ideal S4096x8192 .f32)
    (hD : ∀ i j, D (ValueIdx.ix2 i j) = yv X W i j) (i : Fin 4096) (j : Fin 8192) :
    refF D (ValueIdx.ix2 i j) = quant (rv X W i j) (Ideal.div (gv X W) (Ideal.ofBits .f32 0x42FE0000#32)) := by
  have hs : ∀ z, Host.divf (refMax D) (constant Cert.ReferenceIdeal.S_ .f32 0x42FE0000#32) z = Ideal.div (gv X W) (Ideal.ofBits .f32 0x42FE0000#32) :=
    fun z => congrArg (fun t => Ideal.div t (Ideal.ofBits .f32 0x42FE0000#32)) (refMax_eq X W D hD z)
  have hb : broadcastInDim S4096x8192 ![] bcast_S_S4096x8192 (Host.divf (refMax D) (constant Cert.ReferenceIdeal.S_ .f32 0x42FE0000#32)) (ValueIdx.ix2 i j)
      = Ideal.div (gv X W) (Ideal.ofBits .f32 0x42FE0000#32) := hs _
  have hm : max (D (ValueIdx.ix2 i j)) (Ideal.ofBits .f32 0x00000000#32) = rv X W i j := by
    rw [Ideal.ofBits_zero_f32, hD]; rfl
  rw [← hb, ← hm]
  rfl

/-- The reference's product at an index. -/
theorem refDot_apply (X : FVec Ideal S4096x4096 .f32) (W : FVec Ideal S4096x8192 .f32) (i : Fin 4096) (j : Fin 8192) :
    Host.dotGeneral dot_S4096x4096_S4096x8192_S4096x8192_1_0_0_1_n_n none X W (ValueIdx.ix2 i j) = yv X W i j := by
  have e : dot_S4096x4096_S4096x8192_S4096x8192_1_0_0_1_n_n = DotDims.plain 4096 4096 8192 := rfl
  rw [e]
  exact StackMember.dotGeneral_plain_apply none X W i j

/-- The reference's result. -/
def refOf (X : FVec Ideal S4096x4096 .f32) (W : FVec Ideal S4096x8192 .f32) : FVec Ideal S4096x8192 .f32 :=
  refF (Host.dotGeneral dot_S4096x4096_S4096x8192_S4096x8192_1_0_0_1_n_n none X W)

/-- The kernel's result on a device is its rows of the reference's, where the largest entry is zero or at least the floor. -/
theorem outF_eq {m : (ℓ : Loc nD τ sig) → Buf (Elt Ideal) ℓ} {X : FVec Ideal S4096x4096 .f32} {W : FVec Ideal S4096x8192 .f32} (h : Agree m X W)
    (hg : gv X W = 0 ∨ Ideal.ofBits .f32 0x0DA24260#32 ≤ gv X W) (c : Dev nD) :
    outF m c = Layout.block ⟨2, ![512, 8192]⟩ ⟨2, ![4096, 8192]⟩ 0 8 c (refOf X W) := by
  have key : ∀ (r : Fin 512) (j : Fin 8192), outF m c (ValueIdx.ix2 r j)
      = (Layout.block ⟨2, ![512, 8192]⟩ ⟨2, ![4096, 8192]⟩ 0 8 c (refOf X W) : S512x8192.Idx → EReal) (ValueIdx.ix2 r j) := by
    intro r j
    rw [outF_apply h c r j, Layout.block_apply]
    have hc : c.val < 8 := c.isLt
    refine (quant_floor (rv X W ⟨512 * c.val + r.val, by omega⟩ j) (gv X W) (le_max_right _ _) ((gv_le X W _).mp le_rfl _ _) hg).trans ?_
    refine (refF_apply X W _ (fun i j => refDot_apply X W i j) ⟨512 * c.val + r.val, by omega⟩ j).symm.trans ?_
    refine congrArg _ (funext (Fin.forall_fin_two.mpr ⟨Fin.ext ?_, Fin.ext ?_⟩))
    · refine Eq.trans ?_ (Layout.Tiles.idx_val_self _ _ _ _ (by decide)).symm
      show 512 * c.val + r.val = c.val * 512 + r.val
      omega
    · exact (Layout.Tiles.idx_val_of_ne (S := ⟨2, ![512, 8192]⟩) (T := ⟨2, ![4096, 8192]⟩) (a := 0) (k := 8) (by decide) c (ValueIdx.ix2 r j) 1 (by decide)).symm
  funext p
  have hp : p = ValueIdx.ix2 (p 0) (p 1) := ValueIdx.eq_ix2 p
  rw [hp]
  exact key (p 0) (p 1)

end

end Cert.KernelIdeal.A2A

end
-- ==== Proof.Grid.lean ====
/- Multiples of a power of two: the precondition's grid, at the ideal values. -/
module

public import proofs.«01_k».proof.Proof.Value2
public import Idealize.ShloMosaic.Lib.ReduceAll
public import Idealize.ShloMosaic.Lib.Pointwise.Reshape
public import proofs.«01_k».proof.Pre_on_grid_KernelIdeal

@[expose] public section

set_option maxRecDepth 16384

noncomputable section

namespace Cert.KernelIdeal.A2A

open Cert.KernelIdeal Cert.KernelIdeal.Gen
open Idealize.ShloMosaic Idealize.ShloMosaic.TcCoe Idealize.ShloMosaic.Tactic
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Multiples of a power of two, with the infinities -/

/-- An infinity, or a multiple of `2 ^ -e`. -/
def OnGrid (e : ℕ) (v : EReal) : Prop := v = ⊤ ∨ v = ⊥ ∨ ∃ n : ℤ, v = (((n : ℝ) * ((2 : ℝ) ^ e)⁻¹ : ℝ) : EReal)

theorem OnGrid.zero (e : ℕ) : OnGrid e 0 := .inr (.inr ⟨0, by simp⟩)

theorem OnGrid.mul {a b : ℕ} {v w : EReal} (hv : OnGrid a v) (hw : OnGrid b w) : OnGrid (a + b) (v * w) := by
  have top : ∀ r : ℝ, OnGrid (a + b) (⊤ * (r : EReal)) := fun r => by
    rcases lt_trichotomy r 0 with h | h | h
    · exact .inr (.inl (EReal.top_mul_coe_of_neg h))
    · rw [h, EReal.coe_zero, mul_zero]; exact .zero _
    · exact .inl (EReal.top_mul_coe_of_pos h)
  have bot : ∀ r : ℝ, OnGrid (a + b) (⊥ * (r : EReal)) := fun r => by
    rcases lt_trichotomy r 0 with h | h | h
    · exact .inl (EReal.bot_mul_coe_of_neg h)
    · rw [h, EReal.coe_zero, mul_zero]; exact .zero _
    · exact .inr (.inl (EReal.bot_mul_coe_of_pos h))
  rcases hv with rfl | rfl | ⟨n, rfl⟩ <;> rcases hw with rfl | rfl | ⟨k, rfl⟩
  · exact .inl EReal.top_mul_top
  · exact .inr (.inl EReal.top_mul_bot)
  · exact top _
  · exact .inr (.inl EReal.bot_mul_top)
  · exact .inl EReal.bot_mul_bot
  · exact bot _
  · rw [mul_comm]; exact top _
  · rw [mul_comm]; exact bot _
  · refine .inr (.inr ⟨n * k, ?_⟩)
    rw [← EReal.coe_mul]
    congr 1
    push_cast
    rw [pow_add, mul_inv]
    ring

theorem OnGrid.add {e : ℕ} {v w : EReal} (hv : OnGrid e v) (hw : OnGrid e w) : OnGrid e (v + w) := by
  rcases hv with rfl | rfl | ⟨n, rfl⟩ <;> rcases hw with rfl | rfl | ⟨k, rfl⟩
  · exact .inl EReal.top_add_top
  · exact .inr (.inl (EReal.add_bot _))
  · exact .inl (EReal.top_add_coe _)
  · exact .inr (.inl (EReal.bot_add _))
  · exact .inr (.inl (EReal.bot_add _))
  · exact .inr (.inl (EReal.bot_add _))
  · exact .inl (EReal.coe_add_top _)
  · exact .inr (.inl (EReal.add_bot _))
  · refine .inr (.inr ⟨n + k, ?_⟩)
    rw [← EReal.coe_add]
    congr 1
    push_cast
    ring

theorem OnGrid.sum {e : ℕ} {ι : Type} (s : Finset ι) (f : ι → EReal) (hf : ∀ i ∈ s, OnGrid e (f i)) : OnGrid e (∑ i ∈ s, f i) :=
  Finset.sum_induction f (OnGrid e) (fun _ _ => OnGrid.add) (.zero e) hf

/-- A number that is its own rounding after scaling by `2 ^ e`. -/
theorem OnGrid.of_round {e : ℕ} {v c : EReal} (hc : c = (((2 : ℝ) ^ e : ℝ) : EReal))
    (h : v * c = Ideal.liftRound Ideal.roundHalfEven (v * c)) : OnGrid e v := by
  subst hc
  induction v with
  | bot => exact .inr (.inl rfl)
  | top => exact .inl rfl
  | coe r =>
    rw [← EReal.coe_mul, Ideal.liftRound_coe, EReal.coe_eq_coe_iff] at h
    refine .inr (.inr ⟨Ideal.roundHalfEven (r * 2 ^ e), ?_⟩)
    rw [← h]
    congr 1
    field_simp

/-- A multiple of `2 ^ -99` below the floor is not positive. -/
theorem OnGrid.small {y : EReal} (hy : OnGrid 99 y) (h : max y 0 < Ideal.ofBits .f32 0x0DA24260#32) : max y 0 = 0 := by
  rcases hy with rfl | rfl | ⟨n, rfl⟩
  · rw [max_eq_left le_top] at h; exact absurd h not_top_lt
  · exact max_eq_right bot_le
  · have hn : n ≤ 0 := by
      by_contra hn
      have h1 : (1 : ℝ) ≤ n := by exact_mod_cast (by omega : 1 ≤ n)
      refine absurd ((le_max_left _ _).trans_lt h) (not_lt.mpr ?_)
      rw [floor_eq, EReal.coe_le_coe_iff]
      refine le_trans ?_ (mul_le_mul_of_nonneg_right h1 (by positivity))
      norm_num
    refine max_eq_right ?_
    rw [← EReal.coe_zero, EReal.coe_le_coe_iff]
    exact mul_nonpos_of_nonpos_of_nonneg (by exact_mod_cast hn) (by positivity)

/-! ## The precondition, read -/

theorem p46 : Ideal.ofBits .f32 0x56800000#32 = (((2 : ℝ) ^ 46 : ℝ) : EReal) := by
  simp [Ideal.ofBits, Ideal.ieee]
  rw [← EReal.coe_pow, ← EReal.coe_pow, ← EReal.coe_mul]
  congr 1
  norm_num

theorem p47 : Ideal.ofBits .f32 0x57000000#32 = (((2 : ℝ) ^ 47 : ℝ) : EReal) := by
  simp [Ideal.ofBits, Ideal.ieee]
  rw [← EReal.coe_pow, ← EReal.coe_pow, ← EReal.coe_mul]
  congr 1
  norm_num

theorem p52 : Ideal.ofBits .f32 0x59800000#32 = (((2 : ℝ) ^ 52 : ℝ) : EReal) := by
  simp [Ideal.ofBits, Ideal.ieee]
  rw [← EReal.coe_pow, ← EReal.coe_pow, ← EReal.coe_mul]
  congr 1
  norm_num

theorem p53 : Ideal.ofBits .f32 0x5A000000#32 = (((2 : ℝ) ^ 53 : ℝ) : EReal) := by
  simp [Ideal.ofBits, Ideal.ieee]
  rw [← EReal.coe_pow, ← EReal.coe_pow, ← EReal.coe_mul]
  congr 1
  norm_num

theorem and_one {a b : BitVec 1} (h : IntOp.andi a b = 1#1) : a = 1#1 ∧ b = 1#1 := by
  revert a b; decide

theorem or_one {a b : BitVec 1} (h : IntOp.ori a b = 1#1) : a = 1#1 ∨ b = 1#1 := by
  revert a b; decide

theorem cmp_one {a b : EReal} (h : Ideal.cmp .oeq a b = 1#1) : a = b := by
  unfold Ideal.cmp at h
  by_contra hn
  simp [hn] at h

/-- Where an entry is its own rounding after scaling. -/
def fits {s : Shape} (w : BitVec 32) (v : FVec Ideal s .f32) : IVec s 1 := fun i =>
  Ideal.cmp .oeq (v i * Ideal.ofBits .f32 w) (Ideal.liftRound Ideal.roundHalfEven (v i * Ideal.ofBits .f32 w))

theorem fits_one {s : Shape} {w : BitVec 32} {v : FVec Ideal s .f32} {e : ℕ} (hw : Ideal.ofBits .f32 w = (((2 : ℝ) ^ e : ℝ) : EReal)) {i : s.Idx}
    (h : fits w v i = 1#1) : OnGrid e (v i) := .of_round hw (cmp_one h)

section
open Cert.Pre_on_grid_KernelIdeal (S_ S512 S4096 S8x512 S1x512)
variable [hp : Cert.Pre_on_grid_KernelIdeal.Facts]

/-- The columns of the block, copied along the rows of the table. -/
def colFit (A : FVec Ideal S4096x512 .f32) : IVec S8x512 1 :=
  broadcastInDim S8x512 ![0, 1] hp.bcast_S1x512_S8x512_0_1 (broadcastInDim S1x512 ![1] hp.bcast_S512_S1x512_1
    (Host.reduce IntOp.andi (fits 0x56800000#32 A) (constantI S_ 1 1#1) hp.reducesTo_S4096x512_S512_d0 hp.h_S_))

/-- The rows of the second operand, as a table of blocks of rows. -/
def rowFit (B : FVec Ideal S4096x8192 .f32) : IVec S8x512 1 :=
  shapeCast S8x512 (Host.reduce IntOp.andi (fits 0x59800000#32 B) (constantI S_ 1 1#1) hp.reducesTo_S4096x8192_S4096_d1 hp.h_S_) hp.shapeCasts_S4096_S8x512

theorem fn_eq (A : FVec Ideal S4096x512 .f32) (B : FVec Ideal S4096x8192 .f32) (z : S_.Idx) :
    Cert.Pre_on_grid_KernelIdeal.fn (F := Ideal) A B z
      = IntOp.andi (IntOp.andi (Host.reduce IntOp.andi (fits 0x57000000#32 A) (constantI S_ 1 1#1) hp.reducesTo_S4096x512_S_d0_1 hp.h_S_ z)
          (Host.reduce IntOp.andi (fits 0x5A000000#32 B) (constantI S_ 1 1#1) hp.reducesTo_S4096x8192_S_d0_1 hp.h_S_ z))
        (Host.reduce IntOp.andi (ori (colFit A) (rowFit B)) (constantI S_ 1 1#1) hp.reducesTo_S8x512_S_d0_1 hp.h_S_ z) := rfl

theorem copied_at (x : IVec S512 1) (c : Fin 8) (l : Fin 512) :
    broadcastInDim S8x512 ![0, 1] hp.bcast_S1x512_S8x512_0_1 (broadcastInDim S1x512 ![1] hp.bcast_S512_S1x512_1 x) (ValueIdx.ix2 c l) = x (ValueIdx.ix1 l) :=
  congrArg x (funext fun a => by fin_cases a; rfl)

theorem table_at (x : IVec S4096 1) (c : Fin 8) (l : Fin 512) :
    shapeCast S8x512 x hp.shapeCasts_S4096_S8x512 (ValueIdx.ix2 c l) = x (ValueIdx.ix1 (n := 4096) ⟨512 * c.val + l.val, by omega⟩) :=
  congrArg x (Shape.reshapeEquiv_eq_of_vals hp.shapeCasts_S4096_S8x512 (ValueIdx.ix2 c l) _ (512 * c.val + l.val) (c.val * 512 + l.val)
    ((rowMajor_val1 _).trans rfl) ((rowMajor_val2 _ 512 rfl).trans rfl) (by omega))

theorem colFit_one (A : FVec Ideal S4096x512 .f32) (c : Fin 8) (l : Fin 512) (h : colFit A (ValueIdx.ix2 c l) = 1#1) (r : Fin 4096) :
    OnGrid 46 (A (ValueIdx.ix2 r l)) := by
  unfold colFit at h
  rw [copied_at] at h
  exact fits_one p46 (Host.reduce_andi_eq_one _ _ hp.reducesTo_S4096x512_S512_d0 hp.h_S_ _ h (ValueIdx.ix2 r l)
    (funext fun b => by fin_cases b; rfl))

theorem rowFit_one (B : FVec Ideal S4096x8192 .f32) (c : Fin 8) (l : Fin 512) (h : rowFit B (ValueIdx.ix2 c l) = 1#1) (j : Fin 8192) :
    OnGrid 52 (B (ValueIdx.ix2 ⟨512 * c.val + l.val, by omega⟩ j)) := by
  unfold rowFit at h
  rw [table_at] at h
  exact fits_one p52 (Host.reduce_andi_eq_one _ _ hp.reducesTo_S4096x8192_S4096_d1 hp.h_S_ _ h (ValueIdx.ix2 _ j)
    (funext fun b => by fin_cases b; rfl))

/-- What the precondition says of one device's blocks. -/
theorem pre_read (A : FVec Ideal S4096x512 .f32) (B : FVec Ideal S4096x8192 .f32)
    (h : Cert.Pre_on_grid_KernelIdeal.fn (F := Ideal) A B = fun _ => 1#1) :
    (∀ i, OnGrid 47 (A i)) ∧ (∀ i, OnGrid 53 (B i)) ∧ ∀ (c : Fin 8) (l : Fin 512),
      (∀ r : Fin 4096, OnGrid 46 (A (ValueIdx.ix2 r l))) ∨ ∀ j : Fin 8192, OnGrid 52 (B (ValueIdx.ix2 ⟨512 * c.val + l.val, by omega⟩ j)) := by
  haveI : Subsingleton S_.Idx := ⟨fun a b => funext fun x => x.elim0⟩
  have e := (fn_eq A B (fun a => a.elim0)).symm.trans (congrFun h _)
  obtain ⟨e', e3⟩ := and_one e
  obtain ⟨e1, e2⟩ := and_one e'
  refine ⟨fun i => fits_one p47 (Host.reduce_andi_all _ _ _ _ _ e1 i), fun i => fits_one p53 (Host.reduce_andi_all _ _ _ _ _ e2 i), fun c l => ?_⟩
  have := Host.reduce_andi_all _ _ _ _ _ e3 (ValueIdx.ix2 c l)
  rcases or_one this with h1 | h1
  · exact .inl (colFit_one A c l h1)
  · exact .inr (rowFit_one B c l h1)

end

/-! ## The largest entry under the precondition -/

section
variable [hp : Cert.Pre_on_grid_KernelIdeal.Facts]
variable {m : (ℓ : Loc nD τ sig) → Buf (Elt Ideal) ℓ}
variable {X : S4096x4096.Idx → EReal} {W : S4096x8192.Idx → EReal}

/-- A device's block of the first operand, at an index. -/
theorem block_at (c : Fin 8) (r : Fin 4096) (l : Fin 512) :
    (Layout.block ⟨2, ![4096, 512]⟩ ⟨2, ![4096, 4096]⟩ 1 8 c X : S4096x512.Idx → EReal) (ValueIdx.ix2 r l) = X (ValueIdx.ix2 r ⟨512 * c.val + l.val, by omega⟩) := by
  rw [Layout.block_apply]
  refine congrArg X (funext (Fin.forall_fin_two.mpr ⟨Fin.ext ?_, Fin.ext ?_⟩))
  · exact Layout.Tiles.idx_val_of_ne _ _ _ _ (by decide)
  · refine (Layout.Tiles.idx_val_self _ _ _ _ (by decide)).trans ?_
    show c.val * 512 + l.val = 512 * c.val + l.val
    omega

theorem term_on_grid (h : Agree m X W)
    (hg : ∀ c : Dev nD, Cert.Pre_on_grid_KernelIdeal.fn (F := Ideal) (m ((c : Thread nD τ).loc main_arg0)) (m ((c : Thread nD τ).loc main_arg1)) = fun _ => 1#1)
    (i : Fin 4096) (j : Fin 8192) (c : Fin 8) (l : Fin 512) (hk : 512 * c.val + l.val < 4096) :
    OnGrid 99 (X (ValueIdx.ix2 i ⟨512 * c.val + l.val, hk⟩) * W (ValueIdx.ix2 ⟨512 * c.val + l.val, hk⟩ j)) := by
  have e := hg c
  rw [(h c).1, (h c).2] at e
  obtain ⟨h1, h2, h3⟩ := pre_read _ _ e
  rcases h3 c l with h4 | h4
  · have := h4 i
    rw [block_at] at this
    exact this.mul (h2 _)
  · have := h1 (ValueIdx.ix2 i l)
    rw [block_at] at this
    exact this.mul (h4 j)

theorem yv_on_grid (h : Agree m X W)
    (hg : ∀ c : Dev nD, Cert.Pre_on_grid_KernelIdeal.fn (F := Ideal) (m ((c : Thread nD τ).loc main_arg0)) (m ((c : Thread nD τ).loc main_arg1)) = fun _ => 1#1)
    (i : Fin 4096) (j : Fin 8192) : OnGrid 99 (yv X W i j) := by
  refine OnGrid.sum _ _ fun k _ => ?_
  have hk : k = ⟨512 * (k.val / 512) + k.val % 512, by omega⟩ := Fin.ext (by show k.val = 512 * (k.val / 512) + k.val % 512; omega)
  rw [hk]
  exact term_on_grid h hg i j ⟨k.val / 512, by omega⟩ ⟨k.val % 512, Nat.mod_lt _ (by decide)⟩ _

/-- The largest entry is zero or at least the kernel's floor. -/
theorem floor_ok (h : Agree m X W)
    (hg : ∀ c : Dev nD, Cert.Pre_on_grid_KernelIdeal.fn (F := Ideal) (m ((c : Thread nD τ).loc main_arg0)) (m ((c : Thread nD τ).loc main_arg1)) = fun _ => 1#1) :
    gv X W = 0 ∨ Ideal.ofBits .f32 0x0DA24260#32 ≤ gv X W := by
  by_cases hf : Ideal.ofBits .f32 0x0DA24260#32 ≤ gv X W
  · exact .inr hf
  · refine .inl (le_antisymm ((gv_le X W 0).mpr fun i j => ?_) (gv_nonneg X W))
    exact (OnGrid.small (yv_on_grid h hg i j) (((gv_le X W _).mp le_rfl i j).trans_lt (not_le.mp hf))).le

end

end Cert.KernelIdeal.A2A

end
-- ==== Proof.lean ====
/- The claims, proved: the frames of the two printings from one run of the mesh, the reference's from its generated run, and the result against the reference's on the precondition's grid. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_on_grid_KernelIdeal
public import proofs.«01_k».proof.Proof.Gen.Pre_on_grid_ReferenceIdeal
public import proofs.«01_k».proof.Proof.Launch2
public import proofs.«01_k».proof.Proof.Value3
public import proofs.«01_k».proof.Proof.Grid
public import Idealize.ShloMosaic.Adequacy
public import Idealize.ShloMosaic.Init

@[expose] public section

noncomputable section

namespace Cert.Proof

open Idealize.ShloMosaic Idealize.SL.Sem

/-- The idealised kernel's frame: the run, its values dropped. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.A2A.run_main (F := Ideal) m ρ)

/-- The two printings' body tables are the same: one label, one text. -/
theorem bodies_eq {F : FTy → Type} [FloatOps F] : Cert.Kernel.defs₀ (F := F) = Cert.KernelIdeal.defs₀ (F := F) := by
  refine congrArg Defs.onTc ?_
  funext l a
  fin_cases l
  rfl

/-- The kernel's frame: the two printings have the same text, so it is the same run at the machine's floats. -/
theorem frame_kernel : Cert.quiescent_Kernel := fun m ρ _ =>
  Eq.mpr (congrArg (fun D => θ_run D (onTc (Cert.KernelIdeal.main (F := Bits))) ⟨m, fun _ => 0, ρ⟩ _)
      (congrArg (Pipeline.defs _) bodies_eq))
    ((θ_run Cert.KernelIdeal.defs _ _).mono (fun _ h => ⟨fun c => ⟨(h.1 c).1, (h.1 c).2.1⟩, h.2⟩)
      (Cert.KernelIdeal.A2A.run_main (F := Bits) m ρ))

/-- The reference's frame: it has no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The idealised kernel's result is its rows of the reference's, where the arguments are on the grid. -/
theorem algebraic : Cert.algebraic_KernelIdeal_ReferenceIdeal_pre_on_grid_KernelIdeal := fun m g m' g' hpre hargs => by
  have hagree : Cert.KernelIdeal.A2A.Agree m (m' ((0 : Dev Cert.ReferenceIdeal.nD).tc.loc Cert.ReferenceIdeal.main_arg0))
      (m' ((0 : Dev Cert.ReferenceIdeal.nD).tc.loc Cert.ReferenceIdeal.main_arg1)) := hargs
  refine ⟨Cert.KernelIdeal.A2A.refOf (m' ((0 : Dev Cert.ReferenceIdeal.nD).tc.loc Cert.ReferenceIdeal.main_arg0))
    (m' ((0 : Dev Cert.ReferenceIdeal.nD).tc.loc Cert.ReferenceIdeal.main_arg1)), ?_, ?_⟩
  · refine (θ_run Cert.KernelIdeal.defs _ _).mono (fun r h c => ⟨?_, (h.1 c).1, (h.1 c).2.1⟩) (Cert.KernelIdeal.A2A.run_main (F := Ideal) m g)
    refine (h.1 c).2.2.trans ?_
    exact Cert.KernelIdeal.A2A.outF_eq hagree (Cert.KernelIdeal.A2A.floor_ok hagree hpre) c
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_on_grid_KernelIdeal.Gen.facts, Cert.Pre_on_grid_ReferenceIdeal.Gen.facts,
  frame_kernel, frame_ideal, fun m ρ _ => frame_ideal m ρ trivial, frame_reference, fun m ρ _ => frame_reference m ρ trivial,
  trivial, algebraic⟩

end Cert.Proof

end
